-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S20x1024 : Shape := ⟨2, ![20, 1024]⟩
abbrev S100000x64 : Shape := ⟨2, ![100000, 64]⟩
abbrev S100000 : Shape := ⟨1, ![100000]⟩
abbrev S_ : Shape := ⟨0, ![]⟩

class Facts : Prop where
  bcast_S_S20x1024 : S_.BroadcastsInDim S20x1024 (![] : Fin 0 → Fin S20x1024.rank)
  reducesTo_S20x1024_S_d0_1 : S20x1024.ReducesTo [0, 1] S_
  h_S_ : 0 < S_.numel

variable [Facts]

def fn {F : FTy → Type} [FloatOps F] (main_arg0 : IVec S20x1024 32) (main_arg1 : FVec F S100000x64 .f32) (main_arg2 : FVec F S100000x64 .f32) (main_arg3 : FVec F S100000 .f32) : IVec S_ 1 :=
  let main_c : IVec S_ 32 := constantI S_ 32 0#32
  let main_v0 : IVec S20x1024 32 := broadcastInDim S20x1024 ![] bcast_S_S20x1024 main_c
  let main_v1 : IVec S20x1024 1 := cmpi .sge main_arg0 main_v0
  let main_c_0 : IVec S_ 1 := constantI S_ 1 1#1
  let main_v2 : IVec S_ 1 := (fun x v => Host.reduce IntOp.andi x v reducesTo_S20x1024_S_d0_1 h_S_) main_v1 main_c_0
  let main_c_1 : IVec S_ 32 := constantI S_ 32 100000#32
  let main_v3 : IVec S20x1024 32 := broadcastInDim S20x1024 ![] bcast_S_S20x1024 main_c_1
  let main_v4 : IVec S20x1024 1 := cmpi .slt main_arg0 main_v3
  let main_c_2 : IVec S_ 1 := constantI S_ 1 1#1
  let main_v5 : IVec S_ 1 := (fun x v => Host.reduce IntOp.andi x v reducesTo_S20x1024_S_d0_1 h_S_) main_v4 main_c_2
  let main_v6 : IVec S_ 1 := andi main_v2 main_v5
  main_v6
-- ==== Pre_in_range_finite.lean ====
abbrev S20x1024 : Shape := ⟨2, ![20, 1024]⟩
abbrev S100000x64 : Shape := ⟨2, ![100000, 64]⟩
abbrev S100000 : Shape := ⟨1, ![100000]⟩
abbrev S_ : Shape := ⟨0, ![]⟩

class Facts : Prop where
  bcast_S_S20x1024 : S_.BroadcastsInDim S20x1024 (![] : Fin 0 → Fin S20x1024.rank)
  reducesTo_S20x1024_S_d0_1 : S20x1024.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg3 : FVec F S100000 .f32) (main_v11 : IVec S_ 1) (main_v15 : IVec S_ 1) : IVec S_ 1 :=
  let main_v16 : IVec S_ 1 := andi main_v11 main_v15
  let main_v17 : FVec F S100000 .f32 := Host.absf main_arg3
  let main_cst_6 : FVec F S_ .f32 := constant S_ .f32 0x7F800000#32
  let main_v18 : FVec F S100000 .f32 := broadcastInDim S100000 ![] bcast_S_S100000 main_cst_6
  let main_v19 : IVec S100000 1 := cmpf .olt main_v17 main_v18
  let main_c_7 : IVec S_ 1 := constantI S_ 1 1#1
  let main_v20 : IVec S_ 1 := (fun x v => Host.reduce IntOp.andi x v reducesTo_S100000_S_d0 h_S_) main_v19 main_c_7
  let main_v21 : IVec S_ 1 := andi main_v16 main_v20
  main_v21

def fn {F : FTy → Type} [FloatOps F] (main_arg0 : IVec S20x1024 32) (main_arg1 : FVec F S100000x64 .f32) (main_arg2 : FVec F S100000x64 .f32) (main_arg3 : FVec F S100000 .f32) : IVec S_ 1 :=
  let main_c : IVec S_ 32 := constantI S_ 32 0#32
  let main_v0 : IVec S20x1024 32 := broadcastInDim S20x1024 ![] bcast_S_S20x1024 main_c
  let main_v1 : IVec S20x1024 1 := cmpi .sge main_arg0 main_v0
  let main_c_0 : IVec S_ 1 := constantI S_ 1 1#1
  let main_v2 : IVec S_ 1 := (fun x v => Host.reduce IntOp.andi x v reducesTo_S20x1024_S_d0_1 h_S_) main_v1 main_c_0
  let main_c_1 : IVec S_ 32 := constantI S_ 32 100000#32
  let main_v3 : IVec S20x1024 32 := broadcastInDim S20x1024 ![] bcast_S_S20x1024 main_c_1
  let main_v4 : IVec S20x1024 1 := cmpi .slt main_arg0 main_v3
  let main_c_2 : IVec S_ 1 := constantI S_ 1 1#1
  let main_v5 : IVec S_ 1 := (fun x v => Host.reduce IntOp.andi x v reducesTo_S20x1024_S_d0_1 h_S_) main_v4 main_c_2
  let main_v6 : IVec S_ 1 := andi main_v2 main_v5
  let main_v7 : FVec F S100000x64 .f32 := Host.absf main_arg1
  let main_cst : FVec F S_ .f32 := constant S_ .f32 0x7F800000#32
  let main_v8 : FVec F S100000x64 .f32 := broadcastInDim S100000x64 ![] bcast_S_S100000x64 main_cst
  let main_v9 : IVec S100000x64 1 := cmpf .olt main_v7 main_v8
  let main_c_3 : IVec S_ 1 := constantI S_ 1 1#1
  let main_v10 : IVec S_ 1 := (fun x v => Host.reduce IntOp.andi x v reducesTo_S100000x64_S_d0_1 h_S_) main_v9 main_c_3
  let main_v11 : IVec S_ 1 := andi main_v6 main_v10
  let main_v12 : FVec F S100000x64 .f32 := Host.absf main_arg2
  let main_cst_4 : FVec F S_ .f32 := constant S_ .f32 0x7F800000#32
  let main_v13 : FVec F S100000x64 .f32 := broadcastInDim S100000x64 ![] bcast_S_S100000x64 main_cst_4
  let main_v14 : IVec S100000x64 1 := cmpf .olt main_v12 main_v13
  let main_c_5 : IVec S_ 1 := constantI S_ 1 1#1
  let main_v15 : IVec S_ 1 := (fun x v => Host.reduce IntOp.andi x v reducesTo_S100000x64_S_d0_1 h_S_) main_v14 main_c_5
  fn_part1 (F := F) main_arg3 main_v11 main_v15
-- ==== Kernel.lean ====
abbrev S20x1024 : Shape := ⟨2, ![20, 1024]⟩
abbrev S100000x64 : Shape := ⟨2, ![100000, 64]⟩
abbrev S100000 : Shape := ⟨1, ![100000]⟩
abbrev S20480 : Shape := ⟨1, ![20480]⟩
abbrev S50000x128 : Shape := ⟨2, ![50000, 128]⟩
abbrev S_ : Shape := ⟨0, ![]⟩
abbrev S1x20480 : Shape := ⟨2, ![1, 20480]⟩
abbrev S20480x128 : Shape := ⟨2, ![20480, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S20480x1 : Shape := ⟨2, ![20480, 1]⟩
abbrev S64x100000 : Shape := ⟨2, ![64, 100000]⟩
abbrev S64x100352 : Shape := ⟨2, ![64, 100352]⟩
abbrev S100352 : Shape := ⟨1, ![100352]⟩
abbrev S1x100352 : Shape := ⟨2, ![1, 100352]⟩
abbrev S1024x1 : Shape := ⟨2, ![1024, 1]⟩
abbrev S1024x64 : Shape := ⟨2, ![1024, 64]⟩
abbrev S64x1024 : Shape := ⟨2, ![64, 1024]⟩
abbrev S1x1024 : Shape := ⟨2, ![1, 1024]⟩
abbrev S1024x128 : Shape := ⟨2, ![1024, 128]⟩
abbrev S1024x1024 : Shape := ⟨2, ![1024, 1024]⟩
abbrev S1024 : Shape := ⟨1, ![1024]⟩
abbrev S1024x100000 : Shape := ⟨2, ![1024, 100000]⟩

abbrev nBuf : Table → Nat
  | .hbm => 61
  | .local .tc .vmem => 19
  | .local .scVector .vmem => 2
  | _ => 0

abbrev bufTy : (tb : Table) → Fin (nBuf tb) → BufTy
  | .hbm, ⟨0, _⟩ => ⟨S20x1024, .i32⟩
  | .hbm, ⟨1, _⟩ => ⟨S100000x64, .f32⟩
  | .hbm, ⟨2, _⟩ => ⟨S100000x64, .f32⟩
  | .hbm, ⟨3, _⟩ => ⟨S100000, .f32⟩
  | .hbm, ⟨4, _⟩ => ⟨S20480, .i32⟩
  | .hbm, ⟨5, _⟩ => ⟨S50000x128, .f32⟩
  | .hbm, ⟨6, _⟩ => ⟨S_, .i32⟩
  | .hbm, ⟨7, _⟩ => ⟨S_, .i32⟩
  | .hbm, ⟨8, _⟩ => ⟨S20480, .i32⟩
  | .hbm, ⟨9, _⟩ => ⟨S20480, .i32⟩
  | .hbm, ⟨10, _⟩ => ⟨S20480, .i32⟩
  | .hbm, ⟨11, _⟩ => ⟨S_, .i32⟩
  | .hbm, ⟨12, _⟩ => ⟨S20480, .i32⟩
  | .hbm, ⟨13, _⟩ => ⟨S20480, .i1⟩
  | .hbm, ⟨14, _⟩ => ⟨S20480, .i32⟩
  | .hbm, ⟨15, _⟩ => ⟨S20480, .i32⟩
  | .hbm, ⟨16, _⟩ => ⟨S_, .i32⟩
  | .hbm, ⟨17, _⟩ => ⟨S20480, .i32⟩
  | .hbm, ⟨18, _⟩ => ⟨S20480, .i1⟩
  | .hbm, ⟨19, _⟩ => ⟨S20480, .i1⟩
  | .hbm, ⟨20, _⟩ => ⟨S_, .i32⟩
  | .hbm, ⟨21, _⟩ => ⟨S20480, .i32⟩
  | .hbm, ⟨22, _⟩ => ⟨S20480, .i32⟩
  | .hbm, ⟨23, _⟩ => ⟨S20480, .i32⟩
  | .hbm, ⟨24, _⟩ => ⟨S1x20480, .i32⟩
  | .hbm, ⟨25, _⟩ => ⟨S20480x128, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S20480, .i32⟩
  | .hbm, ⟨33, _⟩ => ⟨S20480, .i32⟩
  | .hbm, ⟨34, _⟩ => ⟨S_, .i32⟩
  | .hbm, ⟨35, _⟩ => ⟨S20480, .i32⟩
  | .hbm, ⟨36, _⟩ => ⟨S20480, .i1⟩
  | .hbm, ⟨37, _⟩ => ⟨S_, .i32⟩
  | .hbm, ⟨38, _⟩ => ⟨S20480, .i32⟩
  | .hbm, ⟨39, _⟩ => ⟨S20480, .i1⟩
  | .hbm, ⟨40, _⟩ => ⟨S_, .i32⟩
  | .hbm, ⟨41, _⟩ => ⟨S_, .i1⟩
  | .hbm, ⟨42, _⟩ => ⟨S20480, .i1⟩
  | .hbm, ⟨43, _⟩ => ⟨S20480, .i1⟩
  | .hbm, ⟨44, _⟩ => ⟨S20480, .i1⟩
  | .hbm, ⟨45, _⟩ => ⟨S20480, .i32⟩
  | .hbm, ⟨46, _⟩ => ⟨S20480, .i32⟩
  | .hbm, ⟨47, _⟩ => ⟨S20480, .i32⟩
  | .hbm, ⟨48, _⟩ => ⟨S20480x1, .i32⟩
  | .hbm, ⟨49, _⟩ => ⟨S64x100000, .f32⟩
  | .hbm, ⟨50, _⟩ => ⟨S64x100000, .bf16⟩
  | .hbm, ⟨51, _⟩ => ⟨S_, .i32⟩
  | .hbm, ⟨52, _⟩ => ⟨S_, .bf16⟩
  | .hbm, ⟨53, _⟩ => ⟨S64x100352, .bf16⟩
  | .hbm, ⟨54, _⟩ => ⟨S_, .f32⟩
  | .hbm, ⟨55, _⟩ => ⟨S_, .f32⟩
  | .hbm, ⟨56, _⟩ => ⟨S100352, .f32⟩
  | .hbm, ⟨57, _⟩ => ⟨S1x100352, .f32⟩
  | .hbm, ⟨58, _⟩ => ⟨S1024x1, .f32⟩
  | .hbm, ⟨59, _⟩ => ⟨S1024x64, .f32⟩
  | .hbm, ⟨60, _⟩ => ⟨S1024x100000, .f32⟩
  | .local .tc .vmem, ⟨0, _⟩ => ⟨S20480x128, .f32⟩
  | .local .tc .vmem, ⟨1, _⟩ => ⟨S20480x1, .i32⟩
  | .local .tc .vmem, ⟨2, _⟩ => ⟨S64x1024, .bf16⟩
  | .local .tc .vmem, ⟨3, _⟩ => ⟨S64x1024, .bf16⟩
  | .local .tc .vmem, ⟨4, _⟩ => ⟨S1x1024, .f32⟩
  | .local .tc .vmem, ⟨5, _⟩ => ⟨S1x1024, .f32⟩
  | .local .tc .vmem, ⟨6, _⟩ => ⟨S1024x1, .f32⟩
  | .local .tc .vmem, ⟨7, _⟩ => ⟨S1024x64, .f32⟩
  | .local .tc .vmem, ⟨8, _⟩ => ⟨S1024x1, .f32⟩
  | .local .tc .vmem, ⟨9, _⟩ => ⟨S1024x1, .f32⟩
  | .local .tc .vmem, ⟨10, _⟩ => ⟨S1024x64, .f32⟩
  | .local .tc .vmem, ⟨11, _⟩ => ⟨S1024x64, .f32⟩
  | .local .tc .vmem, ⟨12, _⟩ => ⟨S64x1024, .bf16⟩
  | .local .tc .vmem, ⟨13, _⟩ => ⟨S64x1024, .bf16⟩
  | .local .tc .vmem, ⟨14, _⟩ => ⟨S1x1024, .f32⟩
  | .local .tc .vmem, ⟨15, _⟩ => ⟨S1x1024, .f32⟩
  | .local .tc .vmem, ⟨16, _⟩ => ⟨S1024x1, .f32⟩
  | .local .tc .vmem, ⟨17, _⟩ => ⟨S1024x1024, .f32⟩
  | .local .tc .vmem, ⟨18, _⟩ => ⟨S1024x1024, .f32⟩
  | .local .scVector .vmem, ⟨0, _⟩ => ⟨S2x1x128, .i32⟩
  | .local .scVector .vmem, ⟨1, _⟩ => ⟨S2x128x128, .f32⟩
  | _, _ => ⟨S20x1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_c_1 : Ref sig .tc := ⟨.hbm, 51, rfl⟩
abbrev main_call2_v0 : Ref sig .tc := ⟨.hbm, 52, rfl⟩
abbrev main_v9 : Ref sig .tc := ⟨.hbm, 53, rfl⟩
abbrev main_cst : Ref sig .tc := ⟨.hbm, 54, rfl⟩
abbrev main_call3_v0 : Ref sig .tc := ⟨.hbm, 55, rfl⟩
abbrev main_v10 : Ref sig .tc := ⟨.hbm, 56, rfl⟩
abbrev main_v11 : Ref sig .tc := ⟨.hbm, 57, rfl⟩
abbrev main_v12_0 : Ref sig .tc := ⟨.hbm, 58, rfl⟩
abbrev main_v12_1 : Ref sig .tc := ⟨.hbm, 59, rfl⟩
abbrev main_v13 : Ref sig .tc := ⟨.hbm, 60, rfl⟩
abbrev main_v1_scv : Ref sig .scVector := ⟨.hbm, 5, rfl⟩
abbrev main_v3_scv : Ref sig .scVector := ⟨.hbm, 24, rfl⟩
abbrev main_v4_scv : Ref sig .scVector := ⟨.hbm, 25, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg3_1 : Ref sig .tc := ⟨.vmem, 5, rfl⟩
abbrev cc1_stg4_0 : Ref sig .tc := ⟨.vmem, 6, rfl⟩
abbrev cc1_stg5_0 : Ref sig .tc := ⟨.vmem, 7, rfl⟩
abbrev cc1_scratch0 : Ref sig .tc := ⟨.vmem, 8, rfl⟩
abbrev cc1_scratch1 : Ref sig .tc := ⟨.vmem, 9, rfl⟩
abbrev cc1_scratch2 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc0_scoped0 : Ref sig .scVector := ⟨.vmem, 0, rfl⟩
abbrev cc0_scoped2 : Ref sig .scVector := ⟨.vmem, 1, rfl⟩
abbrev cc1_sem0_0 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem5_0 : DmaSem sig := 12
abbrev cc2_sem0_0 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c5_i32_27_r0 : BitVec 32 := 5#32
  let v32_r0 : BitVec 32 := Scalar.addi c0_i32_26_r0 c5_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c5_i32_62_r0 : BitVec 32 := 5#32
  let v74_r0 : BitVec 1 := Scalar.cmpi .eq v73_r0 c5_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c4_i32_68_r0 : BitVec 32 := 4#32
  let v83_r0 : BitVec 1 := Scalar.cmpi .sge arg5_r0 c4_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c5_i32_62_r0 : BitVec 32 := 5#32
  let v74_r0 : BitVec 1 := Scalar.cmpi .eq v73_r0 c5_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c4_i32_59_r0 : BitVec 32 := 4#32
  let v70_r0 : BitVec 32 := Scalar.select v69_r0 c4_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c5_i32_62_r0 : BitVec 32 := 5#32
  let v74_r0 : BitVec 1 := Scalar.cmpi .eq v73_r0 c5_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c4_i32_55_r0 : BitVec 32 := 4#32
  let v65_r0 : BitVec 1 := Scalar.cmpi .eq arg5_r0 c4_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c4_i32_59_r0 : BitVec 32 := 4#32
  let v70_r0 : BitVec 32 := Scalar.select v69_r0 c4_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c4_i32_59_r0 : BitVec 32 := 4#32
  let v70_r0 : BitVec 32 := Scalar.select v69_r0 c4_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x20480.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x20480.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S20480x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S20480x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x20480.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x20480.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S20480x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S20480x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c4_i32_33_r0 : BitVec 32 := 4#32
  let v37_r0 : BitVec 32 := Scalar.select v36_r0 c4_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c5_i32 : BitVec 32 := 5#32
  let v4 : BitVec 32 := Scalar.muli v3 c5_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S20480x128.size a)
theorem k0_off19_inb : ∀ (i : grid0.Coords) (v33_4_r0 : BitVec 32) (k0_hw5 : k0_chk5 i v33_4_r0), ∀ a, (k0_off19 i v33_4_r0) a + S128x128.size a ≤ S20480x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev grid1 : Pipeline.Grid := ⟨1, ![98], ![false]⟩

def k1_cond2 (i : grid1.Coords) : BitVec 1 :=
  let arg0 : BitVec 32 := BitVec.ofNat 32 (i 0).val
  let c97_i32 : BitVec 32 := 97#32
  let v32 : BitVec 1 := Scalar.cmpi .eq arg0 c97_i32
  let v33 : BitVec 32 := Scalar.extui v32
  let c0_i32_16 : BitVec 32 := 0#32
  let v34 : BitVec 1 := Scalar.cmpi .ne v33 c0_i32_16
  v34

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S20480x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S20480x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S64x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![98], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1024x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S64x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1024x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S20x1024 : Shape := ⟨2, ![20, 1024]⟩
abbrev S100000x64 : Shape := ⟨2, ![100000, 64]⟩
abbrev S100000 : Shape := ⟨1, ![100000]⟩
abbrev S_ : Shape := ⟨0, ![]⟩
abbrev S20x1024x1 : Shape := ⟨3, ![20, 1024, 1]⟩
abbrev S1 : Shape := ⟨1, ![1]⟩
abbrev S1x1x1 : Shape := ⟨3, ![1, 1, 1]⟩
abbrev S20x1024x64 : Shape := ⟨3, ![20, 1024, 64]⟩
abbrev S1024x64 : Shape := ⟨2, ![1024, 64]⟩
abbrev S64x100000 : Shape := ⟨2, ![64, 100000]⟩
abbrev S1024x100000 : Shape := ⟨2, ![1024, 100000]⟩
abbrev S1x100000 : Shape := ⟨2, ![1, 100000]⟩
abbrev S1024 : Shape := ⟨1, ![1024]⟩
abbrev S1024x1 : Shape := ⟨2, ![1024, 1]⟩

abbrev nBuf : Space → Nat
  | .hbm => 49
  | .vmem => 0
  | .smem => 0
  | _ => 0

abbrev bufTy : (tb : Table) → Fin (tcTables nBuf tb) → BufTy
  | .hbm, ⟨0, _⟩ => ⟨S20x1024, .i32⟩
  | .hbm, ⟨1, _⟩ => ⟨S100000x64, .f32⟩
  | .hbm, ⟨2, _⟩ => ⟨S100000x64, .f32⟩
  | .hbm, ⟨3, _⟩ => ⟨S100000, .f32⟩
  | .hbm, ⟨4, _⟩ => ⟨S_, .i32⟩
  | .hbm, ⟨5, _⟩ => ⟨S20x1024, .i32⟩
  | .hbm, ⟨6, _⟩ => ⟨S20x1024, .i1⟩
  | .hbm, ⟨7, _⟩ => ⟨S_, .i32⟩
  | .hbm, ⟨8, _⟩ => ⟨S20x1024, .i32⟩
  | .hbm, ⟨9, _⟩ => ⟨S20x1024, .i32⟩
  | .hbm, ⟨10, _⟩ => ⟨S20x1024, .i32⟩
  | .hbm, ⟨11, _⟩ => ⟨S20x1024x1, .i32⟩
  | .hbm, ⟨12, _⟩ => ⟨S1, .i32⟩
  | .hbm, ⟨13, _⟩ => ⟨S_, .i32⟩
  | .hbm, ⟨14, _⟩ => ⟨S20x1024x1, .i32⟩
  | .hbm, ⟨15, _⟩ => ⟨S20x1024x1, .i1⟩
  | .hbm, ⟨16, _⟩ => ⟨S1x1x1, .i32⟩
  | .hbm, ⟨17, _⟩ => ⟨S20x1024x1, .i32⟩
  | .hbm, ⟨18, _⟩ => ⟨S20x1024x1, .i1⟩
  | .hbm, ⟨19, _⟩ => ⟨S20x1024x1, .i1⟩
  | .hbm, ⟨20, _⟩ => ⟨S_, .i1⟩
  | .hbm, ⟨21, _⟩ => ⟨S20x1024, .i1⟩
  | .hbm, ⟨22, _⟩ => ⟨S20x1024x64, .f32⟩
  | .hbm, ⟨23, _⟩ => ⟨S20x1024x64, .i1⟩
  | .hbm, ⟨24, _⟩ => ⟨S_, .f32⟩
  | .hbm, ⟨25, _⟩ => ⟨S20x1024x64, .f32⟩
  | .hbm, ⟨26, _⟩ => ⟨S20x1024x64, .f32⟩
  | .hbm, ⟨27, _⟩ => ⟨S_, .f32⟩
  | .hbm, ⟨28, _⟩ => ⟨S1024x64, .f32⟩
  | .hbm, ⟨29, _⟩ => ⟨S64x100000, .f32⟩
  | .hbm, ⟨30, _⟩ => ⟨S1024x100000, .f32⟩
  | .hbm, ⟨31, _⟩ => ⟨S1x100000, .f32⟩
  | .hbm, ⟨32, _⟩ => ⟨S1024x100000, .f32⟩
  | .hbm, ⟨33, _⟩ => ⟨S1024x100000, .f32⟩
  | .hbm, ⟨34, _⟩ => ⟨S_, .f32⟩
  | .hbm, ⟨35, _⟩ => ⟨S1024, .f32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S1024x1, .f32⟩
  | .hbm, ⟨40, _⟩ => ⟨S1024x100000, .f32⟩
  | .hbm, ⟨41, _⟩ => ⟨S1024x100000, .f32⟩
  | .hbm, ⟨42, _⟩ => ⟨S1024x100000, .f32⟩
  | .hbm, ⟨43, _⟩ => ⟨S_, .f32⟩
  | .hbm, ⟨44, _⟩ => ⟨S1024, .f32⟩
  | .hbm, ⟨45, _⟩ => ⟨S1024x1, .f32⟩
  | .hbm, ⟨46, _⟩ => ⟨S1024x1, .f32⟩
  | .hbm, ⟨47, _⟩ => ⟨S1024x100000, .f32⟩
  | .hbm, ⟨48, _⟩ => ⟨S1024x100000, .f32⟩
  | _, _ => ⟨S20x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_call1_cst : Ref sig .tc := ⟨.hbm, 34, rfl⟩
abbrev main_call1_v0 : Ref sig .tc := ⟨.hbm, 35, rfl⟩
abbrev main_call1_cst_0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_cst_1 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_v7 : Ref sig .tc := ⟨.hbm, 48, rfl⟩

abbrev nD : Nat := 1
abbrev τ : Topo := Topo.v7x

variable {F : FTy → Type} [FloatOps F]
-- ==== Proof.Alg.lean ====
/-
  The resource algebra and the small vocabulary the files of this proof share.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.SparseCore.Launch
public import Idealize.ShloMosaic.Lib.Pipeline.RegionArraysS
public import Idealize.ShloMosaic.Lib.Tactic

@[expose] public section

noncomputable section

namespace Cert.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

/-- The algebra of the handshakes' rounds, of the pipelines' rounds, and of the counters. -/
abbrev UH : Type := URounds (GSem nD τ sig) ℕ
abbrev UP : Type := URounds (GSem nD τ sig) Unit
abbrev UU : Type := UH × (UP × Counters)

variable {F : FTy → Type} [FloatOps F]

local notation "𝕄" => MT nD τ sig (HIx 1) (Elt F) ℕ UU ℕ

/-- Memref `M`'s buffer on core `c`: its contents' type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev 𝒱₀ : Variants := Variants.none

end Cert.K

end
-- ==== Proof.TileDefs.lean ====
/-
  The gather's task on one vector subcore: the windows its copies name, by block and by slot, and
  what each window holds.
-/
module

public import proofs.«01_k».proof.Proof.Alg
public import Idealize.ShloMosaic.Lib.SparseCore.Quiescent
public import Idealize.ShloMosaic.Lib.SparseCore.Ops
public import Idealize.ShloMosaic.Lib.SparseCore.Stream
public import Idealize.ShloMosaic.Lib.ValueLayout
public import Idealize.ShloMosaic.Lib.Pipeline.ValueKit.Geometry

@[expose] public section

noncomputable section

namespace Cert.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.SparseCore (V)
open Idealize.ShloMosaic.ValueIdx

variable {F : FTy → Type} [FloatOps F]

local notation "𝕄" => MT nD τ sig (HIx 1) (Elt F) ℕ UU ℕ

/-! ## The trips -/

theorem trips_eq : k0_t1_loop.trips = 5 := by decide +kernel

/-- The loop's carried values before trip `k`. -/
def accOf (k : ℕ) : BitVec 32 × BitVec 32 × BitVec 32 × BitVec 32 × BitVec 32 :=
  (BitVec.ofNat 32 (min (k + 1) 5), BitVec.ofNat 32 k, BitVec.ofNat 32 k, BitVec.ofNat 32 (k - 1), BitVec.ofNat 32 (k % 5))

/-- The windows' offsets: slot `s` of a scratch buffer, its semaphore, block `n` of the words and of the rows. -/
abbrev slotOff (s : ℕ) : Fin 3 → ℕ := ![s % 2, 0, 0]
abbrev semOff (s : ℕ) : Fin 1 → ℕ := ![s % 2]
abbrev base (L : grid0.Coords) : ℕ := 640 * (L 1).val + 10240 * (L 0).val
abbrev wordOff (L : grid0.Coords) (n : ℕ) : Fin 2 → ℕ := ![0, base L + 128 * (n % 5)]
abbrev rowOff (L : grid0.Coords) (n : ℕ) : Fin 2 → ℕ := ![base L + 128 * (n % 5), 0]

theorem base_le (L : grid0.Coords) : base L + 640 ≤ 20480 := by
  have h0 : (L 0).val < 2 := (L 0).isLt
  have h1 : (L 1).val < 16 := (L 1).isLt
  unfold base; omega

theorem slot_inb (s : ℕ) : ∀ a, slotOff s a + S1x1x128.size a ≤ S2x1x128.size a := by
  have h : s % 2 < 2 := Nat.mod_lt _ (by decide)
  intro a
  match a with
  | 0 => show s % 2 + 1 ≤ 2; omega
  | 1 => show 0 + 1 ≤ 1; omega
  | 2 => show 0 + 128 ≤ 128; omega
theorem rslot_inb (s : ℕ) : ∀ a, slotOff s a + S1x128x128.size a ≤ S2x128x128.size a := by
  have h : s % 2 < 2 := Nat.mod_lt _ (by decide)
  intro a
  match a with
  | 0 => show s % 2 + 1 ≤ 2; omega
  | 1 => show 0 + 128 ≤ 128; omega
  | 2 => show 0 + 128 ≤ 128; omega
theorem sem_inb (s : ℕ) : ∀ a, semOff s a + S1.size a ≤ S2.size a := by
  have h : s % 2 < 2 := Nat.mod_lt _ (by decide)
  intro a
  match a with
  | 0 => show s % 2 + 1 ≤ 2; omega
theorem word_inb (L : grid0.Coords) (n : ℕ) : ∀ a, wordOff L n a + S1x128.size a ≤ S1x20480.size a := by
  have h : n % 5 < 5 := Nat.mod_lt _ (by decide)
  have hb := base_le L
  intro a
  match a with
  | 0 => show 0 + 1 ≤ 1; omega
  | 1 => show base L + 128 * (n % 5) + 128 ≤ 20480; omega
theorem row_inb (L : grid0.Coords) (n : ℕ) : ∀ a, rowOff L n a + S128x128.size a ≤ S20480x128.size a := by
  have h : n % 5 < 5 := Nat.mod_lt _ (by decide)
  have hb := base_le L
  intro a
  match a with
  | 0 => show base L + 128 * (n % 5) + 128 ≤ 20480; omega
  | 1 => show 0 + 128 ≤ 128; omega

/-! ## What the program computes at trip `t`: its checks, its conditions, its offsets -/

section Trip

variable (i : grid0.Coords) (t : Fin k0_t1_loop.trips)

theorem chk1_ok : ∀ (i : grid0.Coords) (t : Fin k0_t1_loop.trips),
    k0_chk1 i t (accOf t).1 (accOf t).2.1 (accOf t).2.2.1 (accOf t).2.2.2.1 (accOf t).2.2.2.2 := by decide +kernel
theorem chk2_ok : ∀ (t : Fin k0_t1_loop.trips), k0_chk2 (accOf t).2.2.1 := by decide +kernel
theorem chk3_ok : ∀ (t : Fin k0_t1_loop.trips), k0_chk3 (accOf t).2.1 := by decide +kernel
theorem chk4_ok : k0_chk4 (accOf 5).2.2.2.1 := by decide +kernel
theorem chk5_ok : ∀ i : grid0.Coords, k0_chk5 i (accOf 5).2.2.2.2 := by decide +kernel

theorem cond1_eq : ∀ (i : grid0.Coords) (t : Fin k0_t1_loop.trips), k0_cond1 i t (accOf t).2.2.2.2 = 1#1 ↔ t.val < 4 := by decide +kernel
theorem cond2_eq : ∀ (i : grid0.Coords) (t : Fin k0_t1_loop.trips), k0_cond2 i t (accOf t).2.2.2.2 = 1#1 := by decide +kernel
theorem cond5_eq : ∀ (i : grid0.Coords) (t : Fin k0_t1_loop.trips), k0_cond5 i t (accOf t).2.2.2.2 = 1#1 := by decide +kernel
theorem cond7_eq : ∀ (i : grid0.Coords) (t : Fin k0_t1_loop.trips), k0_cond7 i t (accOf t).2.2.2.2 = 1#1 ↔ 0 < t.val := by decide +kernel

theorem off4_eq : ∀ t : Fin k0_t1_loop.trips, t.val < 4 → k0_off4 (accOf t).1 = slotOff (t.val + 1) := by decide +kernel
theorem off5_eq : ∀ (i : grid0.Coords) (t : Fin k0_t1_loop.trips), t.val < 4 → k0_off5 i (accOf t).2.2.2.2 = wordOff i (t.val + 1) := by decide +kernel
theorem off6_eq : ∀ t : Fin k0_t1_loop.trips, t.val < 4 → k0_off6 (accOf t).1 = semOff (t.val + 1) := by decide +kernel
theorem off7_eq : ∀ t : Fin k0_t1_loop.trips, k0_off7 (accOf t).2.1 = slotOff t.val := by decide +kernel
theorem off8_eq : ∀ (i : grid0.Coords) (t : Fin k0_t1_loop.trips), k0_off8 i (accOf t).2.2.2.2 = wordOff i t.val := by decide +kernel
theorem off9_eq : ∀ t : Fin k0_t1_loop.trips, k0_off9 (accOf t).2.1 = semOff t.val := by decide +kernel
theorem off10_eq : ∀ t : Fin k0_t1_loop.trips, k0_off10 (accOf t).2.2.1 = slotOff t.val := by decide +kernel
theorem off11_eq : ∀ t : Fin k0_t1_loop.trips, k0_off11 (accOf t).2.1 = slotOff t.val := by decide +kernel
theorem off12_eq : ∀ t : Fin k0_t1_loop.trips, k0_off12 (accOf t).2.2.1 = slotOff t.val := by decide +kernel
theorem off13_eq : ∀ (i : grid0.Coords) (t : Fin k0_t1_loop.trips), k0_off13 i (accOf t).2.2.2.2 = rowOff i t.val := by decide +kernel
theorem off14_eq : ∀ t : Fin k0_t1_loop.trips, k0_off14 (accOf t).2.2.1 = semOff t.val := by decide +kernel
theorem off15_eq : ∀ t : Fin k0_t1_loop.trips, 0 < t.val → k0_off15 (accOf t).2.2.2.1 = slotOff (t.val - 1) := by decide +kernel
theorem off16_eq : ∀ (i : grid0.Coords) (t : Fin k0_t1_loop.trips), 0 < t.val → k0_off16 i (accOf t).2.2.2.2 = rowOff i (t.val - 1) := by decide +kernel
theorem off17_eq : ∀ t : Fin k0_t1_loop.trips, 0 < t.val → k0_off17 (accOf t).2.2.2.1 = semOff (t.val - 1) := by decide +kernel

theorem off1_eq' : k0_off1 = slotOff 0 := by decide +kernel
theorem off2_eq' : ∀ i : grid0.Coords, k0_off2 i = wordOff i 0 := by decide +kernel
theorem off3_eq' : k0_off3 = semOff 0 := by decide +kernel
theorem off19_eq : ∀ i : grid0.Coords, k0_off19 i (accOf 5).2.2.2.2 = rowOff i 4 := by decide +kernel
theorem off20_eq : k0_off20 (accOf 5).2.2.2.1 = semOff 4 := by decide +kernel
theorem off21_eq : k0_off21 (accOf 5).2.2.2.1 = slotOff 4 := by decide +kernel

end Trip

/-! ## The windows -/

local notation "tabM" => (Memref.whole Cert.KernelIdeal.main_v1_scv : Memref Cert.KernelIdeal.sig Kind.scVector Space.hbm Cert.KernelIdeal.S50000x128 EltTy.f32)
local notation "idxM" => (Memref.whole Cert.KernelIdeal.main_v3_scv : Memref Cert.KernelIdeal.sig Kind.scVector Space.hbm Cert.KernelIdeal.S1x20480 EltTy.i32)
local notation "outM" => (Memref.whole Cert.KernelIdeal.main_v4_scv : Memref Cert.KernelIdeal.sig Kind.scVector Space.hbm Cert.KernelIdeal.S20480x128 EltTy.f32)
local notation "sIM" => (Memref.whole Cert.KernelIdeal.cc0_scoped0 : Memref Cert.KernelIdeal.sig Kind.scVector Space.vmem Cert.KernelIdeal.S2x1x128 EltTy.i32)
local notation "sRM" => (Memref.whole Cert.KernelIdeal.cc0_scoped2 : Memref Cert.KernelIdeal.sig Kind.scVector Space.vmem Cert.KernelIdeal.S2x128x128 EltTy.f32)

abbrev wordW (L : grid0.Coords) (n : ℕ) : Memref sig .scVector .hbm S1x128 .i32 :=
  (idxM).slice (Rect.unit (s := S1x20480) (wordOff L n) S1x128.size (word_inb L n)) (fun _ => rfl)
abbrev islotW (s : ℕ) : Memref sig .scVector .vmem S1x128 .i32 :=
  ((sIM).slice (Rect.unit (s := S2x1x128) (slotOff s) S1x1x128.size (slot_inb s)) (fun _ => rfl)).squeeze S1x128 squeezes_S1x1x128_S1x128
abbrev rslotW (s : ℕ) : Memref sig .scVector .vmem S128x128 .f32 :=
  ((sRM).slice (Rect.unit (s := S2x128x128) (slotOff s) S1x128x128.size (rslot_inb s)) (fun _ => rfl)).squeeze S128x128 squeezes_S1x128x128_S128x128
abbrev rowW (L : grid0.Coords) (n : ℕ) : Memref sig .scVector .hbm S128x128 .f32 :=
  (outM).slice (Rect.unit (s := S20480x128) (rowOff L n) S128x128.size (row_inb L n)) (fun _ => rfl)
abbrev offsW (s : ℕ) : Memref sig .scVector .vmem S128 .i32 :=
  ((islotW s).slice (Rect.unit (s := S1x128) ![0, 0] S1x128.size inb_S1x128_S1x128_0_0) (fun _ => rfl)).squeeze S128 squeezes_S1x128_S128
abbrev tabW : Memref sig .scVector .hbm S50000x128 .f32 :=
  (tabM).slice (Rect.unit (s := S50000x128) ![0, 0] S50000x128.size inb_S50000x128_S50000x128_0_0) (fun _ => rfl)
abbrev inSem (s : ℕ) : DmaSems sig S_ := (cc0_scoped1.slice (Rect.unit (s := S2) (semOff s) S1.size (sem_inb s))).squeeze S_ squeezes_S1_S_
abbrev outSem (s : ℕ) : DmaSems sig S_ := (cc0_scoped3.slice (Rect.unit (s := S2) (semOff s) S1.size (sem_inb s))).squeeze S_ squeezes_S1_S_

/-! ## What the windows hold -/

variable (tab : Vec F S50000x128 .f32) (idx : Vec F S1x20480 .i32)

/-- Word `k` of the list, and element `(word k, c)` of the table. -/
def wordAt (k : ℕ) : BitVec 32 := idx (ix2 (0 : Fin 1) (⟨k % 20480, Nat.mod_lt _ (by decide)⟩ : Fin 20480))
def rowAt (k : ℕ) (c : Fin 128) : Elt F .f32 :=
  tab (ix2 (⟨(wordAt (F := F) idx k).toNat % 50000, Nat.mod_lt _ (by decide)⟩ : Fin 50000) c)

/-- The rows the list names, one per word. -/
def gatherRows : Vec F S20480x128 .f32 := fun j => rowAt tab idx (j 0).val (j 1)

variable (L : grid0.Coords)

def slotWords (n : ℕ) : Vec F S2x1x128 .i32 := fun j => wordAt (F := F) idx (base L + 128 * (n % 5) + (j 2).val)
def slotRows (n : ℕ) : Vec F S2x128x128 .f32 := fun j => rowAt tab idx (base L + 128 * (n % 5) + (j 1).val) (j 2)

theorem wordAt_lt (hidx : ∀ j, (idx j).toNat < 50000) (k : ℕ) : (wordAt (F := F) idx k).toNat < 50000 := hidx _

theorem wordW_emb (n : ℕ) (x : Fin 128) : (wordW L n).view.emb (ix2 (0 : Fin 1) x)
    = ix2 (0 : Fin 1) (⟨(base L + 128 * (n % 5) + x.val) % 20480, Nat.mod_lt _ (by decide)⟩ : Fin 20480) := by
  have hb := base_le L
  have h : n % 5 < 5 := Nat.mod_lt _ (by decide)
  have hx := x.isLt
  funext a
  match a with
  | 0 => exact Fin.ext (show 0 + 1 * 0 = 0 by omega)
  | 1 =>
    refine Fin.ext (show base L + 128 * (n % 5) + 1 * x.val = (base L + 128 * (n % 5) + x.val) % 20480 from ?_)
    generalize base L = b at *
    generalize n % 5 = m at *
    have : b + 128 * m + x.val < 20480 := by omega
    rw [Nat.mod_eq_of_lt this]; omega

theorem islotW_emb (s : ℕ) (x : Fin 128) : (islotW s).view.emb (ix2 (0 : Fin 1) x)
    = ix3 (⟨s % 2, Nat.mod_lt _ (by decide)⟩ : Fin 2) (0 : Fin 1) x := by
  show (Rect.unit (s := S2x1x128) (slotOff s) S1x1x128.size (slot_inb s)).emb
    (Shape.reshapeEquiv squeezes_S1x1x128_S1x128.numel_eq (ix2 (0 : Fin 1) x)) = _
  rw [reshapeEquiv_ix2_1ab]
  funext a
  match a with
  | 0 => exact Fin.ext (show s % 2 + 1 * 0 = s % 2 by omega)
  | 1 => exact Fin.ext (show 0 + 1 * 0 = 0 by omega)
  | 2 => exact Fin.ext (show 0 + 1 * x.val = x.val by omega)

theorem rslotW_emb (s : ℕ) (r c : Fin 128) : (rslotW s).view.emb (ix2 r c)
    = ix3 (⟨s % 2, Nat.mod_lt _ (by decide)⟩ : Fin 2) r c := by
  show (Rect.unit (s := S2x128x128) (slotOff s) S1x128x128.size (rslot_inb s)).emb
    (Shape.reshapeEquiv squeezes_S1x128x128_S128x128.numel_eq (ix2 r c)) = _
  rw [reshapeEquiv_ix2_1ab]
  funext a
  match a with
  | 0 => exact Fin.ext (show s % 2 + 1 * 0 = s % 2 by omega)
  | 1 => exact Fin.ext (show 0 + 1 * r.val = r.val by omega)
  | 2 => exact Fin.ext (show 0 + 1 * c.val = c.val by omega)

theorem rowW_emb_val (n : ℕ) (r c : Fin 128) :
    (((rowW L n).view.emb (ix2 r c) 0 : Fin 20480) : ℕ) = base L + 128 * (n % 5) + r.val
    ∧ ((rowW L n).view.emb (ix2 r c) 1 : Fin 128) = c := by
  constructor
  · show base L + 128 * (n % 5) + 1 * r.val = _; omega
  · exact Fin.ext (show 0 + 1 * c.val = c.val by omega)

theorem offsW_emb (s : ℕ) (x : S128.Idx) : (offsW s).view.emb x
    = ix3 (⟨s % 2, Nat.mod_lt _ (by decide)⟩ : Fin 2) (0 : Fin 1) (x 0 : Fin 128) := by
  refine Eq.trans ?_ (islotW_emb s (x 0))
  show (islotW s).view.emb ((Rect.unit (s := S1x128) ![0, 0] S1x128.size inb_S1x128_S1x128_0_0).emb
    (Shape.reshapeEquiv squeezes_S1x128_S128.numel_eq x)) = _
  congr 1
  rw [show Shape.reshapeEquiv squeezes_S1x128_S128.numel_eq x = ix2 (0 : Fin 1) (x 0 : Fin 128) from
    Shape.reshapeEquiv_eq_of_rowMajor _ (by
      refine (Shape.rowMajor_val_two (d := ![1, 128]) (ix2 (0 : Fin 1) (x 0 : Fin 128))).trans ?_
      refine Eq.trans ?_ (Shape.rowMajor_val_one (d := ![128]) x).symm
      show 0 * 128 + (x 0).val = (x 0).val; omega)]
  funext a
  match a with
  | 0 => exact Fin.ext (show 0 + 1 * 0 = 0 by omega)
  | 1 => exact Fin.ext (show 0 + 1 * (x 0).val = (x 0).val by omega)

/-- An index of a window, by coordinates. -/
theorem idx2_eq {a b : ℕ} (x : (⟨2, ![a, b]⟩ : Shape).Idx) : x = ix2 (x 0 : Fin a) (x 1 : Fin b) := by
  funext k; match k with
  | 0 => rfl
  | 1 => rfl

/-- The words' copy leaves block `n` of the list in its slot; -/
theorem write_words (n : ℕ) (f : Vec F S2x1x128 .i32) :
    ∀ j ∈ (islotW n).view.set, (islotW n).view.write (Elt F) f ((wordW L n).view.read (Elt F) idx) Finset.univ j = slotWords idx L n j := by
  intro j hj
  obtain ⟨x, rfl⟩ := View.exists_emb_of_mem_set _ hj
  rw [View.write_emb_of_mem (h := Finset.mem_univ x), View.read_apply]
  obtain ⟨z, y, rfl⟩ : ∃ (z : Fin 1) (y : Fin 128), x = ix2 z y := ⟨_, _, idx2_eq x⟩
  obtain rfl : z = 0 := Subsingleton.elim _ _
  rw [wordW_emb, islotW_emb]; rfl

/-- the stream leaves in its slot the rows block `n` names; -/
theorem write_rows (hidx : ∀ j, (idx j).toNat < 50000) (n : ℕ) (f : Vec F S2x128x128 .f32)
    (hin : ∀ x, ((offsW n).view.read (Elt F) (slotWords idx L n) x).toNat < S50000x128.size gathers_S50000x128_S128x128.axis) :
    ∀ j ∈ (rslotW n).view.set, (rslotW n).view.write (Elt F) f
      (SparseCore.gatherPayload gathers_S50000x128_S128x128 ((tabW).view.read (Elt F) tab) (SparseCore.rows ((offsW n).view.read (Elt F) (slotWords idx L n)) rfl hin))
      Finset.univ j = slotRows tab idx L n j := by
  intro j hj
  obtain ⟨x, rfl⟩ := View.exists_emb_of_mem_set _ hj
  rw [View.write_emb_of_mem (h := Finset.mem_univ x)]
  obtain ⟨r, c, rfl⟩ : ∃ r c : Fin 128, x = ix2 r c := ⟨_, _, idx2_eq x⟩
  rw [rslotW_emb]
  show SparseCore.gatherPayload gathers_S50000x128_S128x128 ((tabW).view.read (Elt F) tab) _ (ix2 r c) = rowAt tab idx (base L + 128 * (n % 5) + r.val) c
  unfold SparseCore.gatherPayload rowAt
  rw [View.read_apply]
  show tab _ = tab _
  congr 1
  have hval : ∀ y : S128.Idx, ((offsW n).view.read (Elt F) (slotWords idx L n) y) = wordAt (F := F) idx (base L + 128 * (n % 5) + (y 0).val) := by
    intro y; rw [View.read_apply, offsW_emb]; rfl
  have hsym : ∀ k : Fin 128, (((S128.rowMajor.symm k) 0 : Fin 128) : ℕ) = k.val := by
    intro k
    have h := Shape.rowMajor_val_one (d := ![128]) (S128.rowMajor.symm k)
    exact h.symm.trans (congrArg Fin.val (Equiv.apply_symm_apply S128.rowMajor k))
  have hw := wordAt_lt idx hidx (base L + 128 * (n % 5) + r.val)
  funext a
  match a with
  | 0 =>
    refine Fin.ext ?_
    show 0 + 1 * ((gathers_S50000x128_S128x128.idx (SparseCore.rows ((offsW n).view.read (Elt F) (slotWords idx L n)) rfl hin) (ix2 r c)) gathers_S50000x128_S128x128.axis).val
      = (wordAt (F := F) idx (base L + 128 * (n % 5) + r.val)).toNat % 50000
    rw [Shape.Gathers.idx_axis, Nat.mod_eq_of_lt hw]
    show 0 + 1 * (((offsW n).view.read (Elt F) (slotWords idx L n)) (S128.rowMajor.symm _)).toNat = _
    rw [hval]
    refine (congrArg (fun q => 0 + 1 * (wordAt (F := F) idx (base L + 128 * (n % 5) + q)).toNat) (hsym r)).trans ?_
    show 0 + 1 * (wordAt (F := F) idx (base L + 128 * (n % 5) + r.val)).toNat = _
    omega
  | 1 =>
    refine Fin.ext ?_
    show 0 + 1 * ((gathers_S50000x128_S128x128.idx (SparseCore.rows ((offsW n).view.read (Elt F) (slotWords idx L n)) rfl hin) (ix2 r c)) 1).val = c.val
    rw [Shape.Gathers.idx_of_ne _ _ _ _ (by decide)]
    show 0 + 1 * c.val = c.val; omega

/-- the stream's words are rows of the table; -/
theorem words_inb (hidx : ∀ j, (idx j).toNat < 50000) (n : ℕ) :
    ∀ x, ((offsW n).view.read (Elt F) (slotWords idx L n) x).toNat < S50000x128.size gathers_S50000x128_S128x128.axis := by
  intro x; rw [View.read_apply]; exact wordAt_lt idx hidx _

/-- and the rows' copy leaves them at block `n` of the array. -/
theorem write_out (n : ℕ) (f : Vec F S20480x128 .f32) :
    ∀ j ∈ (rowW L n).view.set, (rowW L n).view.write (Elt F) f ((rslotW n).view.read (Elt F) (slotRows tab idx L n)) Finset.univ j = gatherRows tab idx j := by
  intro j hj
  obtain ⟨x, rfl⟩ := View.exists_emb_of_mem_set _ hj
  rw [View.write_emb_of_mem (h := Finset.mem_univ x), View.read_apply]
  obtain ⟨r, c, rfl⟩ : ∃ r c : Fin 128, x = ix2 r c := ⟨_, _, idx2_eq x⟩
  rw [rslotW_emb]
  have h := rowW_emb_val L n r c
  unfold gatherRows slotRows
  show rowAt tab idx _ _ = rowAt tab idx _ _
  rw [h.1, h.2]

end Cert.K

end
-- ==== Proof.TileOps.lean ====
/-
  The gather's task, one operation at a time: each copy's start and its wait, and the stream.
-/
module

public import proofs.«01_k».proof.Proof.TileDefs
public import Idealize.ShloMosaic.Lib.SparseCore.FromWhole

@[expose] public section

noncomputable section

namespace Cert.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.SparseCore (V)

variable {F : FTy → Type} [FloatOps F]

local notation "𝕄" => MT nD τ sig (HIx 1) (Elt F) ℕ UU ℕ
local notation "tabM" => (Memref.whole Cert.KernelIdeal.main_v1_scv : Memref Cert.KernelIdeal.sig Kind.scVector Space.hbm Cert.KernelIdeal.S50000x128 EltTy.f32)
local notation "idxM" => (Memref.whole Cert.KernelIdeal.main_v3_scv : Memref Cert.KernelIdeal.sig Kind.scVector Space.hbm Cert.KernelIdeal.S1x20480 EltTy.i32)
local notation "outM" => (Memref.whole Cert.KernelIdeal.main_v4_scv : Memref Cert.KernelIdeal.sig Kind.scVector Space.hbm Cert.KernelIdeal.S20480x128 EltTy.f32)
local notation "sIM" => (Memref.whole Cert.KernelIdeal.cc0_scoped0 : Memref Cert.KernelIdeal.sig Kind.scVector Space.vmem Cert.KernelIdeal.S2x1x128 EltTy.i32)
local notation "sRM" => (Memref.whole Cert.KernelIdeal.cc0_scoped2 : Memref Cert.KernelIdeal.sig Kind.scVector Space.vmem Cert.KernelIdeal.S2x128x128 EltTy.f32)

/-- The subcore a task runs on. -/
abbrev cV (L : grid0.Coords) : Fin τ.nSC := (L 0).castLE hcore0
abbrev jV (L : grid0.Coords) : Fin τ.nSub := (L 1).castLE hsub0

section Ops

variable (tab : Vec F S50000x128 .f32) (idx : Vec F S1x20480 .i32)
variable (d : Dev nD) (L : grid0.Coords) (q : PosShare TreeShare)

abbrev thr : Thread nD τ := V d (cV L) (jV L)

abbrev tabP : sProp 𝕄 := (tabM).view.loc (thr d L) ↦{q} tab
abbrev idxP (q' : PosShare TreeShare) : sProp 𝕄 := (idxM).view.loc (thr d L) ↦{q'} idx
abbrev slotI (s : ℕ) (f : Vec F S2x1x128 .i32) : sProp 𝕄 := (sIM).view.loc (thr d L) ↦[(islotW s).view.set]{fullShare} f
abbrev slotR (s : ℕ) (f : Vec F S2x128x128 .f32) : sProp 𝕄 := (sRM).view.loc (thr d L) ↦[(rslotW s).view.set]{fullShare} f
abbrev blk (n : ℕ) (f : Vec F S20480x128 .f32) : sProp 𝕄 := (outM).view.loc (thr d L) ↦[(rowW L n).view.set]{fullShare} f

/-- Slot `s`'s half of the words' share. -/
def half (s : ℕ) : PosShare TreeShare := if s % 2 = 0 then q.left else q.right

/-- What the words' copy of block `n` delivers, and what the rows' copy delivers. -/
abbrev wordsIn (n : ℕ) : sProp 𝕄 := iprop(slotI d L n (slotWords idx L n) ∗ idxP idx d L (half q n))
abbrev rowsOut (n : ℕ) : sProp 𝕄 := iprop(blk d L n (gatherRows tab idx) ∗ slotR d L n (slotRows tab idx L n))

abbrev flightIn (n : ℕ) : sProp 𝕄 :=
  Transfers.Flight countersEmb (thr d L) (.dma (inSem n).sem) (default : HIx 1) (islotW n).view.dmaCredit (wordsIn idx d L q n)
abbrev flightOut (n : ℕ) : sProp 𝕄 :=
  Transfers.Flight countersEmb (thr d L) (.dma (outSem n).sem) (default : HIx 1) (rowW L n).view.dmaCredit (rowsOut tab idx d L n)

/-- The thread's debt, with the waits made since `W`. -/
abbrev owesB (O : CellTallies nD τ sig (HIx 1)) (W : Waits sig (HIx 1)) : sProp 𝕄 :=
  iprop(∃ W', ⌜∀ p ∈ W', p ∈ W ∨ p.2 = none⌝ ∗ owes (thr d L) O W')

variable {Q : PUnit → sProp (MT nD τ sig (HIx 1) (Elt F) ℕ UU ℕ)} {O : CellTallies nD τ sig (HIx 1)} {W : Waits sig (HIx 1)}

theorem ret_intro : Q ⟨⟩ ⊢ wp frame (wpE (defs₀ (F := F)) 𝒱₀ (thr d L) none) Set.univ (Prog.ret ⟨⟩) Q := by
  rw [show wp frame (wpE (defs₀ (F := F)) 𝒱₀ (thr d L) none) Set.univ (Prog.ret ⟨⟩) Q = iprop(|={Set.univ}=> Q ⟨⟩) from rfl]
  iintro H; imodintro; iexact H

theorem wp_words_start (n : ℕ) {oS : Fin 3 → ℕ} {oX : Fin 1 → ℕ} {oW : Fin 2 → ℕ} {hS : ∀ a, oS a + S1x1x128.size a ≤ S2x1x128.size a}
    {hX : ∀ a, oX a + S1.size a ≤ S2.size a} {hW : ∀ a, oW a + S1x128.size a ≤ S1x20480.size a}
    (eS : oS = slotOff n) (eX : oX = semOff n) (eW : oW = wordOff L n) {hb hx hsrc hdst hsem} :
    iprop(idxP idx d L (half q n) ∗ (∃ f, slotI d L n f) ∗ semVal (thr d L, SemLoc.dma (inSem n).sem) 0
      ∗ (flightIn idx d L q n -∗ Q ⟨⟩))
    ⊢ wp frame (wpE (defs₀ (F := F)) 𝒱₀ (thr d L) none) Set.univ
      (Prog.lift (.enqueueDma ((idxM).slice (Rect.unit (s := S1x20480) oW S1x128.size hW) hb)
        (.here (((sIM).slice (Rect.unit (s := S2x1x128) oS S1x1x128.size hS) hx).squeeze S1x128 squeezes_S1x1x128_S1x128))
        (.dma ((cc0_scoped1.slice (Rect.unit (s := S2) oX S1.size hX)).squeeze S_ squeezes_S1_S_).sem) hsrc hdst hsem)) Q := by
  subst eS eX eW
  iintro ⟨Hi, ⟨%f, Hs⟩, Hx, HQ⟩
  iapply (Transfers.wp_dmaFromWhole countersEmb 𝒱₀ (thr d L) none (src := wordW L n) (dst := islotW n) (via := .same) (fs := idx)
    (q := half q n) (Sd := (islotW n).view.set) (fd := f) (default : HIx 1) (islotW n).view.dmaCredit rfl
    (View.dmaCredit_pos _ (by decide)) (Finset.Subset.refl _)) $$ [Hi Hs Hx]
  · isplitl [Hi]; · iexact Hi
    isplitl [Hs]; · iexact Hs
    iexact Hx
  iintro Hf
  iapply ret_intro
  iapply HQ
  iapply (Transfers.Flight_mono countersEmb (thr d L) (show _ ⊢ wordsIn idx d L q n from ?_)) $$ Hf
  exact Entails.of_eq (congrArg (fun x => iprop(x ∗ idxP idx d L (half q n))) (pointsTo_congr (write_words idx L n f)))

theorem wp_words_wait (n : ℕ) {oS : Fin 3 → ℕ} {oX : Fin 1 → ℕ} {oW : Fin 2 → ℕ} {hS : ∀ a, oS a + S1x1x128.size a ≤ S2x1x128.size a}
    {hX : ∀ a, oX a + S1.size a ≤ S2.size a} {hW : ∀ a, oW a + S1x128.size a ≤ S1x20480.size a}
    (eS : oS = slotOff n) (eX : oX = semOff n) (eW : oW = wordOff L n) {hb hx hsrc hdst} :
    iprop(flightIn idx d L q n ∗ owesB d L O W ∗ Transfers.MayWaits (thr d L) (default : HIx 1) O
      ∗ (iprop(slotI d L n (slotWords idx L n) ∗ idxP idx d L (half q n) ∗ semVal (thr d L, SemLoc.dma (inSem n).sem) 0 ∗ owesB d L O W) -∗ Q ⟨⟩))
    ⊢ wp frame (wpE (defs₀ (F := F)) 𝒱₀ (thr d L) none) Set.univ
      (Prog.lift (.waitDma2 ((cc0_scoped1.slice (Rect.unit (s := S2) oX S1.size hX)).squeeze S_ squeezes_S1_S_).sem
        ((idxM).slice (Rect.unit (s := S1x20480) oW S1x128.size hW) hb)
        (((sIM).slice (Rect.unit (s := S2x1x128) oS S1x1x128.size hS) hx).squeeze S1x128 squeezes_S1x1x128_S1x128) hsrc hdst)) Q := by
  subst eS eX eW
  iintro ⟨Hf, ⟨%W', %hW', HO⟩, #Hmw, HQ⟩
  iapply (Transfers.wp_waitLocalO countersEmb 𝒱₀ (thr d L) none (default : HIx 1) (rfl : (islotW n).view.dmaCredit = _)) $$ [Hf HO]
  · isplitl [Hf]; · iexact Hf
    isplitl [HO]; · iexact HO
    iapply (Transfers.MayWaits.elim (SemLoc.dma (inSem n).sem)) $$ Hmw
  iintro ⟨⟨Hs, Hi⟩, Hx, HO⟩
  iapply ret_intro
  iapply HQ
  isplitl [Hs]; · iexact Hs
  isplitl [Hi]; · iexact Hi
  isplitl [Hx]; · iexact Hx
  iexists _; isplitr
  swap; · iexact HO
  ipureintro; intro p hp
  rcases Finset.mem_insert.mp hp with hp | hp
  · exact .inr (hp ▸ rfl)
  · exact hW' p hp

theorem wp_rows_start (n : ℕ) (f : Vec F S20480x128 .f32) {oS : Fin 3 → ℕ} {oX : Fin 1 → ℕ} {oW : Fin 2 → ℕ} {hS : ∀ a, oS a + S1x128x128.size a ≤ S2x128x128.size a}
    {hX : ∀ a, oX a + S1.size a ≤ S2.size a} {hW : ∀ a, oW a + S128x128.size a ≤ S20480x128.size a}
    (eS : oS = slotOff n) (eX : oX = semOff n) (eW : oW = rowOff L n) {hb hx hsrc hdst hsem} :
    iprop(slotR d L n (slotRows tab idx L n) ∗ blk d L n f ∗ semVal (thr d L, SemLoc.dma (outSem n).sem) 0
      ∗ (flightOut tab idx d L n -∗ Q ⟨⟩))
    ⊢ wp frame (wpE (defs₀ (F := F)) 𝒱₀ (thr d L) none) Set.univ
      (Prog.lift (.enqueueDma (((sRM).slice (Rect.unit (s := S2x128x128) oS S1x128x128.size hS) hx).squeeze S128x128 squeezes_S1x128x128_S128x128)
        (.here ((outM).slice (Rect.unit (s := S20480x128) oW S128x128.size hW) hb))
        (.dma ((cc0_scoped3.slice (Rect.unit (s := S2) oX S1.size hX)).squeeze S_ squeezes_S1_S_).sem) hsrc hdst hsem)) Q := by
  subst eS eX eW
  iintro ⟨Hs, Ho, Hx, HQ⟩
  iapply (Transfers.wp_dmaLocal countersEmb 𝒱₀ (thr d L) none (src := rslotW n) (dst := rowW L n) (via := .same) (fs := slotRows tab idx L n)
    (q := fullShare) (Sd := (rowW L n).view.set) (fd := f) (default : HIx 1) (rowW L n).view.dmaCredit rfl
    (View.dmaCredit_pos _ (by decide)) (Finset.Subset.refl _)) $$ [Hs Ho Hx]
  · isplitl [Hs]; · iexact Hs
    isplitl [Ho]; · iexact Ho
    iexact Hx
  iintro Hf
  iapply ret_intro
  iapply HQ
  iapply (Transfers.Flight_mono countersEmb (thr d L) (show _ ⊢ rowsOut tab idx d L n from ?_)) $$ Hf
  exact Entails.of_eq (congrArg (fun x => iprop(x ∗ slotR d L n (slotRows tab idx L n))) (pointsTo_congr (write_out tab idx L n f)))

theorem wp_rows_wait (n : ℕ) {oS : Fin 3 → ℕ} {oX : Fin 1 → ℕ} {oW : Fin 2 → ℕ} {hS : ∀ a, oS a + S1x128x128.size a ≤ S2x128x128.size a}
    {hX : ∀ a, oX a + S1.size a ≤ S2.size a} {hW : ∀ a, oW a + S128x128.size a ≤ S20480x128.size a}
    (eS : oS = slotOff n) (eX : oX = semOff n) (eW : oW = rowOff L n) {hb hx hsrc hdst} :
    iprop(flightOut tab idx d L n ∗ owesB d L O W ∗ Transfers.MayWaits (thr d L) (default : HIx 1) O
      ∗ (iprop(blk d L n (gatherRows tab idx) ∗ slotR d L n (slotRows tab idx L n) ∗ semVal (thr d L, SemLoc.dma (outSem n).sem) 0 ∗ owesB d L O W) -∗ Q ⟨⟩))
    ⊢ wp frame (wpE (defs₀ (F := F)) 𝒱₀ (thr d L) none) Set.univ
      (Prog.lift (.waitDma2 ((cc0_scoped3.slice (Rect.unit (s := S2) oX S1.size hX)).squeeze S_ squeezes_S1_S_).sem
        (((sRM).slice (Rect.unit (s := S2x128x128) oS S1x128x128.size hS) hx).squeeze S128x128 squeezes_S1x128x128_S128x128)
        ((outM).slice (Rect.unit (s := S20480x128) oW S128x128.size hW) hb) hsrc hdst)) Q := by
  subst eS eX eW
  iintro ⟨Hf, ⟨%W', %hW', HO⟩, #Hmw, HQ⟩
  iapply (Transfers.wp_waitLocalO countersEmb 𝒱₀ (thr d L) none (default : HIx 1) (rfl : (rowW L n).view.dmaCredit = _)) $$ [Hf HO]
  · isplitl [Hf]; · iexact Hf
    isplitl [HO]; · iexact HO
    iapply (Transfers.MayWaits.elim (SemLoc.dma (outSem n).sem)) $$ Hmw
  iintro ⟨⟨Ho, Hs⟩, Hx, HO⟩
  iapply ret_intro
  iapply HQ
  isplitl [Ho]; · iexact Ho
  isplitl [Hs]; · iexact Hs
  isplitl [Hx]; · iexact Hx
  iexists _; isplitr
  swap; · iexact HO
  ipureintro; intro p hp
  rcases Finset.mem_insert.mp hp with hp | hp
  · exact .inr (hp ▸ rfl)
  · exact hW' p hp

/-- A rectangle of a matrix from the origin, of the matrix's own sizes, is all of it. -/
theorem full_rect {a b : ℕ} (inb : ∀ k, (![0, 0] : Fin 2 → ℕ) k + (![a, b] : Fin 2 → ℕ) k ≤ (⟨2, ![a, b]⟩ : Shape).size k) :
    (Rect.unit (s := ⟨2, ![a, b]⟩) ![0, 0] ![a, b] inb).set = Finset.univ := by
  refine Finset.eq_univ_iff_forall.mpr fun j => Rect.mem_set_unit.mpr fun k => ?_
  match k with
  | 0 => exact ⟨Nat.zero_le _, by show (j 0).val < 0 + a; have := (j 0).isLt; change _ < a at this; omega⟩
  | 1 => exact ⟨Nat.zero_le _, by show (j 1).val < 0 + b; have := (j 1).isLt; change _ < b at this; omega⟩

theorem offsW_set (s : ℕ) : (offsW s).view.set = (islotW s).view.set := by
  show (((islotW s).view.slice (Rect.unit (s := S1x128) ![0, 0] S1x128.size inb_S1x128_S1x128_0_0)).reshape S128 squeezes_S1x128_S128.numel_eq).set = _
  rw [View.set_reshape, View.set_slice]
  exact congrArg (Finset.map (islotW s).view.emb) (full_rect (a := 1) (b := 128) inb_S1x128_S1x128_0_0)

theorem tabW_set : (tabW).view.set = Finset.univ :=
  (View.set_slice _ _).trans ((congrArg (Finset.map (View.whole main_v1_scv).emb)
    (full_rect (a := 50000) (b := 128) inb_S50000x128_S50000x128_0_0)).trans (View.set_whole _))

set_option maxRecDepth 16384 in
theorem credit_sum (n : ℕ) : ∀ h : S50000x128.Gathers 0 S128x128,
    ∑ j, ((rslotW n).slice (S128x128.rowRect h.axis' j) (S128x128.stride_rowRect h.axis' j)).view.dmaCredit = (rslotW n).view.dmaCredit := by
  intro h
  have h0 : ∀ h : S50000x128.Gathers 0 S128x128, ∑ j, ((rslotW 0).slice (S128x128.rowRect h.axis' j) (S128x128.stride_rowRect h.axis' j)).view.dmaCredit
      = (rslotW 0).view.dmaCredit := by decide
  exact h0 h

/-- The stream of block `n`'s rows, started and waited for. -/
theorem wp_stream (n : ℕ) (hidx : ∀ j, (idx j).toNat < 50000) {oS oR : Fin 3 → ℕ} {hS : ∀ a, oS a + S1x1x128.size a ≤ S2x1x128.size a}
    {hR : ∀ a, oR a + S1x128x128.size a ≤ S2x128x128.size a}
    (eS : oS = slotOff n) (eR : oR = slotOff n) {hx hr hy ht hsrc he hsp hsrc' hdst' hsr} :
    iprop(tabP tab d L q ∗ slotI d L n (slotWords idx L n) ∗ (∃ f, slotR d L n f) ∗ semVal (thr d L, SemLoc.dma cc0_scoped4.sem) 0
      ∗ owesB d L O W ∗ Transfers.MayWaits (thr d L) (default : HIx 1) O
      ∗ (iprop(tabP tab d L q ∗ slotI d L n (slotWords idx L n) ∗ slotR d L n (slotRows tab idx L n)
          ∗ semVal (thr d L, SemLoc.dma cc0_scoped4.sem) 0 ∗ owesB d L O W) -∗ Q ⟨⟩))
    ⊢ wp frame (wpE (defs₀ (F := F)) 𝒱₀ (thr d L) none) Set.univ
      (SparseCore.enqueueIndirectGather rfl ((tabM).slice (Rect.unit (s := S50000x128) ![0, 0] S50000x128.size inb_S50000x128_S50000x128_0_0) ht)
        (((sRM).slice (Rect.unit (s := S2x128x128) oR S1x128x128.size hR) hr).squeeze S128x128 squeezes_S1x128x128_S128x128) gathers_S50000x128_S128x128
        (((((sIM).slice (Rect.unit (s := S2x1x128) oS S1x1x128.size hS) hx).squeeze S1x128 squeezes_S1x1x128_S1x128).slice
          (Rect.unit (s := S1x128) ![0, 0] S1x128.size inb_S1x128_S1x128_0_0) hy).squeeze S128 squeezes_S1x128_S128) rfl cc0_scoped4.sem hsrc he hsp hsr)
      fun _ => wp frame (wpE (defs₀ (F := F)) 𝒱₀ (thr d L) none) Set.univ
        (SparseCore.waitIndirectGather cc0_scoped4.sem ((tabM).slice (Rect.unit (s := S50000x128) ![0, 0] S50000x128.size inb_S50000x128_S50000x128_0_0) ht)
          (((sRM).slice (Rect.unit (s := S2x128x128) oR S1x128x128.size hR) hr).squeeze S128x128 squeezes_S1x128x128_S128x128) hsrc' hdst') Q := by
  subst eS eR
  rw [← wp_bind]
  iintro ⟨Ht, Hi, ⟨%f, Hr⟩, Hx, ⟨%W', %hW', HO⟩, #Hmw, HQ⟩
  iapply (SparseCore.wp_indirectGatherLocal countersEmb 𝒱₀ (thr d L) none (src := tabW) (dst := rslotW n) (offs := offsW n)
      (hg := gathers_S50000x128_S128x128) (hn := rfl) (fs := tab) (fd := f) (fo := slotWords idx L n) (q := q) (qo := fullShare) (default : HIx 1)
      (rslotW n).view.dmaCredit (credit_sum n _) (by decide) (words_inb idx L hidx n)) $$ [Ht Hi Hr Hx]
  · isplitl [Ht]; · rw [tabW_set]; iexact Ht
    isplitl [Hr]; · iexact Hr
    isplitl [Hi]; · rw [offsW_set]; iexact Hi
    iexact Hx
  iintro Hf
  iapply (Transfers.wp_waitLocalO countersEmb 𝒱₀ (thr d L) none (default : HIx 1) (rfl : (rslotW n).view.dmaCredit = _)) $$ [Hf HO]
  · isplitl [Hf]; · iexact Hf
    isplitl [HO]; · iexact HO
    iapply (Transfers.MayWaits.elim (SemLoc.dma cc0_scoped4.sem)) $$ Hmw
  iintro ⟨⟨Hr, Ht, Hi⟩, Hx, HO⟩
  iapply ret_intro
  iapply HQ
  isplitl [Ht]; · rw [tabW_set]; iexact Ht
  isplitl [Hi]; · rw [offsW_set]; iexact Hi
  isplitl [Hr]
  · iapply (Entails.of_eq (pointsTo_congr (write_rows tab idx L hidx n f (words_inb idx L hidx n)))); iexact Hr
  isplitl [Hx]; · iexact Hx
  iexists _; isplitr
  swap; · iexact HO
  ipureintro; intro p hp
  rcases Finset.mem_insert.mp hp with hp | hp
  · exact .inr (hp ▸ rfl)
  · exact hW' p hp

end Ops

end Cert.K

end
-- ==== Proof.TileLoop.lean ====
/-
  The gather's loop: its invariant, and one trip.
-/
module

public import proofs.«01_k».proof.Proof.TileOps

@[expose] public section

noncomputable section

namespace Cert.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.SparseCore (V)

variable {F : FTy → Type} [FloatOps F]

local notation "𝕄" => MT nD τ sig (HIx 1) (Elt F) ℕ UU ℕ
local notation "tabM" => (Memref.whole Cert.KernelIdeal.main_v1_scv : Memref Cert.KernelIdeal.sig Kind.scVector Space.hbm Cert.KernelIdeal.S50000x128 EltTy.f32)
local notation "idxM" => (Memref.whole Cert.KernelIdeal.main_v3_scv : Memref Cert.KernelIdeal.sig Kind.scVector Space.hbm Cert.KernelIdeal.S1x20480 EltTy.i32)
local notation "outM" => (Memref.whole Cert.KernelIdeal.main_v4_scv : Memref Cert.KernelIdeal.sig Kind.scVector Space.hbm Cert.KernelIdeal.S20480x128 EltTy.f32)
local notation "sIM" => (Memref.whole Cert.KernelIdeal.cc0_scoped0 : Memref Cert.KernelIdeal.sig Kind.scVector Space.vmem Cert.KernelIdeal.S2x1x128 EltTy.i32)
local notation "sRM" => (Memref.whole Cert.KernelIdeal.cc0_scoped2 : Memref Cert.KernelIdeal.sig Kind.scVector Space.vmem Cert.KernelIdeal.S2x128x128 EltTy.f32)

section Loop

variable (tab : Vec F S50000x128 .f32) (idx : Vec F S1x20480 .i32) (o0 : Vec F S20480x128 .f32)
variable (d : Dev nD) (L : grid0.Coords) (q : PosShare TreeShare)
variable (O : CellTallies nD τ sig (HIx 1)) (W : Waits sig (HIx 1))

/-! ## The invariant -/

/-- A slot no copy is using: its semaphore at zero, its half of the words, its contents whatever they are. -/
def idleI (s : ℕ) : sProp 𝕄 :=
  iprop(idxP idx d L (half q s) ∗ (∃ f, slotI d L s f) ∗ semVal (thr d L, SemLoc.dma (inSem s).sem) 0)
def idleR (s : ℕ) : sProp 𝕄 := iprop((∃ f, slotR d L s f) ∗ semVal (thr d L, SemLoc.dma (outSem s).sem) 0)

theorem idleI_aux {o o' : Fin 3 → ℕ} {x x' : Fin 1 → ℕ} {p p' : PosShare TreeShare} (eo : o = o') (ex : x = x') (ep : p = p')
    (h : ∀ a, o a + S1x1x128.size a ≤ S2x1x128.size a) (h' : ∀ a, o' a + S1x1x128.size a ≤ S2x1x128.size a)
    (k : ∀ a, x a + S1.size a ≤ S2.size a) (k' : ∀ a, x' a + S1.size a ≤ S2.size a) :
    (iprop(idxP idx d L p ∗ (∃ f, (sIM).view.loc (thr d L) ↦[(((sIM).slice (Rect.unit (s := S2x1x128) o S1x1x128.size h) (fun _ => rfl)).squeeze S1x128 squeezes_S1x1x128_S1x128).view.set]{fullShare} f)
      ∗ semVal (thr d L, SemLoc.dma ((cc0_scoped1.slice (Rect.unit (s := S2) x S1.size k)).squeeze S_ squeezes_S1_S_).sem) 0) : sProp 𝕄)
    = iprop(idxP idx d L p' ∗ (∃ f, (sIM).view.loc (thr d L) ↦[(((sIM).slice (Rect.unit (s := S2x1x128) o' S1x1x128.size h') (fun _ => rfl)).squeeze S1x128 squeezes_S1x1x128_S1x128).view.set]{fullShare} f)
      ∗ semVal (thr d L, SemLoc.dma ((cc0_scoped1.slice (Rect.unit (s := S2) x' S1.size k')).squeeze S_ squeezes_S1_S_).sem) 0) := by
  subst eo ex ep; rfl
theorem idleI_congr {s s' : ℕ} (h : s % 2 = s' % 2) : (idleI idx d L q s : sProp 𝕄) = idleI idx d L q s' :=
  idleI_aux idx d L (by simp only [slotOff, h]) (by simp only [semOff, h]) (by simp only [half, h]) _ _ _ _

theorem idleR_aux {o o' : Fin 3 → ℕ} {x x' : Fin 1 → ℕ} (eo : o = o') (ex : x = x')
    (h : ∀ a, o a + S1x128x128.size a ≤ S2x128x128.size a) (h' : ∀ a, o' a + S1x128x128.size a ≤ S2x128x128.size a)
    (k : ∀ a, x a + S1.size a ≤ S2.size a) (k' : ∀ a, x' a + S1.size a ≤ S2.size a) :
    (iprop((∃ f, (sRM).view.loc (thr d L) ↦[(((sRM).slice (Rect.unit (s := S2x128x128) o S1x128x128.size h) (fun _ => rfl)).squeeze S128x128 squeezes_S1x128x128_S128x128).view.set]{fullShare} f)
      ∗ semVal (thr d L, SemLoc.dma ((cc0_scoped3.slice (Rect.unit (s := S2) x S1.size k)).squeeze S_ squeezes_S1_S_).sem) 0) : sProp 𝕄)
    = iprop((∃ f, (sRM).view.loc (thr d L) ↦[(((sRM).slice (Rect.unit (s := S2x128x128) o' S1x128x128.size h') (fun _ => rfl)).squeeze S128x128 squeezes_S1x128x128_S128x128).view.set]{fullShare} f)
      ∗ semVal (thr d L, SemLoc.dma ((cc0_scoped3.slice (Rect.unit (s := S2) x' S1.size k')).squeeze S_ squeezes_S1_S_).sem) 0) := by
  subst eo ex; rfl
theorem idleR_congr {s s' : ℕ} (h : s % 2 = s' % 2) : (idleR d L s : sProp 𝕄) = idleR d L s' :=
  idleR_aux d L (by simp only [slotOff, h]) (by simp only [semOff, h]) _ _ _ _

/-- Before trip `k`: block `k`'s words are on their way, -/
def inSide (k : ℕ) : sProp 𝕄 :=
  if k < 5 then iprop(flightIn idx d L q k ∗ idleI idx d L q (k + 1)) else iprop(idleI idx d L q k ∗ idleI idx d L q (k + 1))
/-- block `k - 1`'s rows are on theirs, -/
def outSide (k : ℕ) : sProp 𝕄 :=
  if k = 0 then iprop(idleR d L 0 ∗ idleR d L 1) else iprop(flightOut tab idx d L (k - 1) ∗ idleR d L k)
/-- and of the array's blocks those before are written and those from `k` on are as they were. -/
def rowSt (k : ℕ) (n : Fin 5) : sProp 𝕄 :=
  if n.val + 1 < k then blk d L n (gatherRows tab idx) else if n.val < k then iprop(emp) else blk d L n o0
def rowsSt (k : ℕ) : sProp 𝕄 := bigSep Finset.univ fun n : Fin 5 => rowSt tab idx o0 d L k n

theorem rowsSt_zero : (rowsSt tab idx o0 d L 0 : sProp 𝕄) = bigSep Finset.univ fun n : Fin 5 => blk d L n o0 :=
  bigSep_congr fun n _ => by unfold rowSt; rw [if_neg (by omega), if_neg (by omega)]

theorem rowsSt_take (t : Fin 5) : (rowsSt tab idx o0 d L t : sProp 𝕄)
    = iprop(blk d L t o0 ∗ bigSep (Finset.univ.erase t) fun n : Fin 5 => rowSt tab idx o0 d L t n) := by
  unfold rowsSt
  rw [SparseCore.bigSep_erase' (Finset.mem_univ t)]
  congr 1
  unfold rowSt; rw [if_neg (by omega), if_neg (by omega)]

theorem rowsSt_first : (bigSep (Finset.univ.erase (0 : Fin 5)) fun n : Fin 5 => rowSt tab idx o0 d L 0 n) ⊢ (rowsSt tab idx o0 d L 1 : sProp 𝕄) := by
  unfold rowsSt
  rw [SparseCore.bigSep_erase' (Finset.mem_univ (0 : Fin 5)),
    show (rowSt tab idx o0 d L 1 0 : sProp 𝕄) = iprop(emp) by unfold rowSt; rw [if_neg (by decide), if_pos (by decide)],
    bigSep_congr (Ψ := fun n : Fin 5 => rowSt tab idx o0 d L 1 n) fun n hn => by
      have h : n.val ≠ 0 := fun e => (Finset.mem_erase.mp hn).1 (Fin.ext e)
      unfold rowSt; rw [if_neg (by omega), if_neg (by omega), if_neg (by omega), if_neg (by omega)]]
  iintro H
  isplitr; · iempintro
  iexact H

theorem rowsSt_next (t p : Fin 5) (hp : p.val + 1 = t.val) :
    iprop(blk d L p (gatherRows tab idx) ∗ bigSep (Finset.univ.erase t) fun n : Fin 5 => rowSt tab idx o0 d L t n) ⊢ (rowsSt tab idx o0 d L (t + 1) : sProp 𝕄) := by
  have hmem : p ∈ Finset.univ.erase t := Finset.mem_erase.mpr ⟨fun e => by rw [e] at hp; omega, Finset.mem_univ _⟩
  unfold rowsSt
  rw [SparseCore.bigSep_erase' (Finset.mem_univ t), SparseCore.bigSep_erase' hmem, SparseCore.bigSep_erase' hmem,
    show (rowSt tab idx o0 d L (t + 1) t : sProp 𝕄) = iprop(emp) by unfold rowSt; rw [if_neg (by omega), if_pos (by omega)],
    show (rowSt tab idx o0 d L (t + 1) p : sProp 𝕄) = blk d L p (gatherRows tab idx) by unfold rowSt; rw [if_pos (by omega)],
    show (rowSt tab idx o0 d L t p : sProp 𝕄) = iprop(emp) by unfold rowSt; rw [if_neg (by omega), if_pos (by omega)],
    bigSep_congr (Ψ := fun n : Fin 5 => rowSt tab idx o0 d L (t + 1) n) fun n hn => by
      have h1 : n.val ≠ p.val := fun e => (Finset.mem_erase.mp hn).1 (Fin.ext e)
      have h2 : n.val ≠ t.val := fun e => (Finset.mem_erase.mp (Finset.mem_erase.mp hn).2).1 (Fin.ext e)
      unfold rowSt
      by_cases h : n.val + 1 < t.val
      · rw [if_pos h, if_pos (by omega)]
      · rw [if_neg h, if_neg (by omega), if_neg (by omega), if_neg (by omega)]]
  iintro ⟨Hb, -, H⟩
  isplitr; · iempintro
  isplitl [Hb]; · iexact Hb
  iexact H

theorem rowsSt_last : iprop(blk d L 4 (gatherRows tab idx) ∗ rowsSt tab idx o0 d L 5)
    ⊢ (bigSep Finset.univ fun n : Fin 5 => blk d L n (gatherRows tab idx) : sProp 𝕄) := by
  unfold rowsSt
  rw [SparseCore.bigSep_erase' (Finset.mem_univ (4 : Fin 5)), SparseCore.bigSep_erase' (Finset.mem_univ (4 : Fin 5)),
    show (rowSt tab idx o0 d L 5 4 : sProp 𝕄) = iprop(emp) by unfold rowSt; rw [if_neg (by decide), if_pos (by decide)],
    bigSep_congr (Ψ := fun n : Fin 5 => (blk d L n (gatherRows tab idx) : sProp 𝕄)) fun n hn => by
      have h : n.val ≠ 4 := fun e => (Finset.mem_erase.mp hn).1 (Fin.ext e)
      unfold rowSt; rw [if_pos (by omega)]]
  iintro ⟨Hb, -, H⟩
  isplitl [Hb]; · iexact Hb
  iexact H

/-- The invariant before trip `k`. -/
def inv (k : ℕ) (acc : BitVec 32 × BitVec 32 × BitVec 32 × BitVec 32 × BitVec 32) : sProp 𝕄 :=
  iprop(⌜acc = accOf k⌝ ∗ Transfers.MayWaits (thr d L) (default : HIx 1) O ∗ inSide idx d L q k ∗ outSide tab idx d L k ∗ rowsSt tab idx o0 d L k
    ∗ tabP tab d L q ∗ semVal (thr d L, SemLoc.dma cc0_scoped4.sem) 0 ∗ owesB d L O W)

/-! ## One trip -/

/-- The subcore's first block, as a word. -/
abbrev v4Of (L : grid0.Coords) : BitVec 32 :=
  Scalar.muli (Scalar.addi (Scalar.addi 0#32 (Scalar.muli (BitVec.ofNat 32 (L 1).val) 1#32)) (Scalar.muli (BitVec.ofNat 32 (L 0).val) 16#32)) 5#32

/-- What the loop returns from a trip, as the body computes it. -/
theorem assume_intro {P : Prop} {dP : Decidable P} {Q : PLift P → sProp 𝕄} (h : P) :
    Q ⟨h⟩ ⊢ wp frame (wpE (defs₀ (F := F)) 𝒱₀ (thr d L) none) Set.univ (Prog.lift (.assume P dP)) Q := by
  refine BIBase.Entails.trans ?_ (wp_assume 𝒱₀ (thr d L) none Set.univ h)
  rw [show wp frame (wpE (defs₀ (F := F)) 𝒱₀ (thr d L) none) Set.univ (Prog.ret (PLift.up h)) Q = iprop(|={Set.univ}=> Q ⟨h⟩) from rfl]
  iintro H; imodintro; iexact H

variable {O W}

/-- The next block's words set off, when there is a next block. -/
def startPost (t : ℕ) : sProp 𝕄 := if t < 4 then flightIn idx d L q (t + 1) else idleI idx d L q (t + 1)

theorem wp_start_if (t : Fin k0_t1_loop.trips) {β : Type} (k : β) {Q : β → sProp 𝕄}
    {hS : k0_cond1 L t (accOf t).2.2.2.2 = 1#1 → ∀ a, k0_off4 (accOf t).1 a + S1x1x128.size a ≤ S2x1x128.size a}
    {hX : k0_cond1 L t (accOf t).2.2.2.2 = 1#1 → ∀ a, k0_off6 (accOf t).1 a + S1.size a ≤ S2.size a}
    {hW : k0_cond1 L t (accOf t).2.2.2.2 = 1#1 → ∀ a, k0_off5 L (accOf t).2.2.2.2 a + S1x128.size a ≤ S1x20480.size a} :
    iprop(idleI idx d L q (t.val + 1) ∗ (startPost idx d L q t.val -∗ Q k))
    ⊢ wp frame (wpE (defs₀ (F := F)) 𝒱₀ (thr d L) none) Set.univ
      (if h : k0_cond1 L t (accOf t).2.2.2.2 = 1#1 then (do
        Prog.lift (.enqueueDma ((idxM).slice (Rect.unit (s := S1x20480) (k0_off5 L (accOf t).2.2.2.2) S1x128.size (hW h)) (fun _ => rfl))
          (.here (((sIM).slice (Rect.unit (s := S2x1x128) (k0_off4 (accOf t).1) S1x1x128.size (hS h)) (fun _ => rfl)).squeeze S1x128 squeezes_S1x1x128_S1x128))
          (.dma ((cc0_scoped1.slice (Rect.unit (s := S2) (k0_off6 (accOf t).1) S1.size (hX h))).squeeze S_ squeezes_S1_S_).sem) (View.wordExact_bits rfl) ((View.wordExact_bits rfl).reshape _ _) ⟨Or.inl rfl, trivial⟩)
        pure k) else pure k) Q := by
  unfold startPost idleI
  by_cases h : t.val < 4
  · rw [dif_pos ((cond1_eq L t).mpr h), if_pos h, wp_bind]
    iintro ⟨⟨Hi, Hs, Hx⟩, HQ⟩
    iapply (wp_words_start idx d L q (t.val + 1) (off4_eq t h) (off6_eq t h) (off5_eq L t h)) $$ [Hi Hs Hx HQ]
    isplitl [Hi]; · iexact Hi
    isplitl [Hs]; · iexact Hs
    isplitl [Hx]; · iexact Hx
    iintro Hf
    simp only [wp_pure]
    imodintro
    iapply HQ; iexact Hf
  · rw [dif_neg (fun e => h ((cond1_eq L t).mp e)), if_neg h, wp_pure]
    iintro ⟨H, HQ⟩
    imodintro
    iapply HQ; iexact H

/-- Before a trip, what the rows' slot other than the trip's is about; after it, that slot is idle and the block before is written. -/
def endPre (t : ℕ) : sProp 𝕄 := if t = 0 then idleR d L 1 else flightOut tab idx d L (t - 1)
def endBlk (t : ℕ) : sProp 𝕄 := if t = 0 then iprop(emp) else blk d L (t - 1) (gatherRows tab idx)

theorem wp_end_if (t : Fin k0_t1_loop.trips) {β : Type} (k : β) {Q : β → sProp 𝕄}
    {hS : k0_cond7 L t (accOf t).2.2.2.2 = 1#1 → ∀ a, k0_off15 (accOf t).2.2.2.1 a + S1x128x128.size a ≤ S2x128x128.size a}
    {hX : k0_cond7 L t (accOf t).2.2.2.2 = 1#1 → ∀ a, k0_off17 (accOf t).2.2.2.1 a + S1.size a ≤ S2.size a}
    {hW : k0_cond7 L t (accOf t).2.2.2.2 = 1#1 → ∀ a, k0_off16 L (accOf t).2.2.2.2 a + S128x128.size a ≤ S20480x128.size a} :
    iprop(endPre tab idx d L t.val ∗ owesB d L O W ∗ Transfers.MayWaits (thr d L) (default : HIx 1) O
      ∗ (iprop(idleR d L (t.val + 1) ∗ endBlk tab idx d L t.val ∗ owesB d L O W) -∗ Q k))
    ⊢ wp frame (wpE (defs₀ (F := F)) 𝒱₀ (thr d L) none) Set.univ
      (if h : k0_cond7 L t (accOf t).2.2.2.2 = 1#1 then (do
        Prog.lift (.waitDma2 ((cc0_scoped3.slice (Rect.unit (s := S2) (k0_off17 (accOf t).2.2.2.1) S1.size (hX h))).squeeze S_ squeezes_S1_S_).sem
          (((sRM).slice (Rect.unit (s := S2x128x128) (k0_off15 (accOf t).2.2.2.1) S1x128x128.size (hS h)) (fun _ => rfl)).squeeze S128x128 squeezes_S1x128x128_S128x128)
          ((outM).slice (Rect.unit (s := S20480x128) (k0_off16 L (accOf t).2.2.2.2) S128x128.size (hW h)) (fun _ => rfl)) ((View.wordExact_bits rfl).reshape _ _) (View.wordExact_bits rfl))
        pure k) else pure k) Q := by
  unfold endPre endBlk
  by_cases h : 0 < t.val
  · rw [dif_pos ((cond7_eq L t).mpr h), if_neg (by omega), if_neg (by omega), wp_bind, idleR_congr (s := t.val + 1) (s' := t.val - 1) d L (by omega)]
    unfold idleR
    iintro ⟨Hf, HO, #Hmw, HQ⟩
    iapply (wp_rows_wait tab idx d L (t.val - 1) (off15_eq t h) (off17_eq t h) (off16_eq L t h)) $$ [Hf HO HQ]
    isplitl [Hf]; · iexact Hf
    isplitl [HO]; · iexact HO
    isplitr; · iexact Hmw
    iintro ⟨Hb, Hs, Hx, HO⟩
    simp only [wp_pure]
    imodintro
    iapply HQ
    isplitl [Hs Hx]
    · isplitl [Hs]
      · iexists _; iexact Hs
      iexact Hx
    isplitl [Hb]; · iexact Hb
    iexact HO
  · rw [dif_neg (fun e => h ((cond7_eq L t).mp e)), if_pos (by omega), if_pos (by omega), wp_pure, show t.val = 0 by omega]
    iintro ⟨H, HO, -, HQ⟩
    imodintro
    iapply HQ
    isplitl [H]; · iexact H
    isplitr; · iempintro
    iexact HO

variable (O W)

theorem inSide_take (t : ℕ) (ht : t < 5) : (inSide idx d L q t : sProp 𝕄) ⊢ iprop(flightIn idx d L q t ∗ idleI idx d L q (t + 1)) := by
  unfold inSide; rw [if_pos ht]

theorem inSide_put (t : ℕ) (ht : t < 5) : iprop(startPost idx d L q t ∗ idleI idx d L q t) ⊢ (inSide idx d L q (t + 1) : sProp 𝕄) := by
  unfold inSide startPost
  rw [idleI_congr idx d L q (s := t + 1 + 1) (s' := t) (by omega)]
  by_cases h : t < 4
  · rw [if_pos h, if_pos (by omega)]
  · rw [if_neg h, if_neg (by omega)]

theorem outSide_take (t : ℕ) : (outSide tab idx d L t : sProp 𝕄) ⊢ iprop(((∃ f, slotR d L t f) ∗ semVal (thr d L, SemLoc.dma (outSem t).sem) 0) ∗ endPre tab idx d L t) := by
  unfold outSide endPre
  by_cases h : t = 0
  · subst h; rw [if_pos rfl, if_pos rfl]; unfold idleR; exact .rfl
  · rw [if_neg h, if_neg h]
    exact sep_comm

theorem rowsSt_put (t : Fin 5) : iprop(endBlk tab idx d L t.val ∗ bigSep (Finset.univ.erase t) fun n : Fin 5 => rowSt tab idx o0 d L t n)
    ⊢ (rowsSt tab idx o0 d L (t.val + 1) : sProp 𝕄) := by
  unfold endBlk
  by_cases h : t.val = 0
  · obtain rfl : t = 0 := Fin.ext h
    rw [if_pos (show ((0 : Fin 5) : ℕ) = 0 from rfl)]
    iintro ⟨-, H⟩
    iapply (show (bigSep (Finset.univ.erase (0 : Fin 5)) fun n : Fin 5 => rowSt tab idx o0 d L ((0 : Fin 5) : ℕ) n) ⊢ (rowsSt tab idx o0 d L (((0 : Fin 5) : ℕ) + 1) : sProp 𝕄)
      from rowsSt_first tab idx o0 d L) $$ H
  · rw [if_neg h]
    exact rowsSt_next tab idx o0 d L t ⟨t.val - 1, by omega⟩ (by show t.val - 1 + 1 = t.val; omega)

theorem trip (hidx : ∀ j, (idx j).toNat < 50000) (t : Fin k0_t1_loop.trips) (acc : BitVec 32 × BitVec 32 × BitVec 32 × BitVec 32 × BitVec 32) :
    inv tab idx o0 d L q O W t.val acc ⊢ wp frame (wpE (defs₀ (F := F)) 𝒱₀ (thr d L) none) Set.univ
      (k0_t1_body L tabM (Memref.isWhole_whole _) idxM (Memref.isWhole_whole _) outM (Memref.isWhole_whole _) sIM (Memref.isWhole_whole _) cc0_scoped1
        sRM (Memref.isWhole_whole _) cc0_scoped3 cc0_scoped4 (v4Of L) t acc)
      (inv tab idx o0 d L q O W (t.val + 1)) := by
  have ht : t.val < 5 := trips_eq ▸ t.isLt
  unfold inv
  iintro ⟨%hacc, #Hmw, Hin, Hout, Hrows, Ht, Hx, HO⟩
  subst hacc
  have e : accOf t.val = ((accOf t.val).1, (accOf t.val).2.1, (accOf t.val).2.2.1, (accOf t.val).2.2.2.1, (accOf t.val).2.2.2.2) := rfl
  rw [e]
  simp only [k0_t1_body, k0_part1_eq_skeleton, k0_part2_eq_skeleton, k0_part1_skel, k0_part2_skel, cond2_eq, cond5_eq, ↓reduceDIte, ite_self]
  simp only [wp_bind]
  iapply (assume_intro d L (chk3_ok t))
  iapply (assume_intro d L (chk2_ok t))
  iapply (assume_intro d L (chk1_ok L t))
  ihave Hin := (inSide_take idx d L q t.val ht) $$ Hin
  icases Hin with ⟨Hf, Hidle⟩
  iapply (wp_start_if idx d L q t) $$ [-]
  isplitl [Hidle]; · iexact Hidle
  iintro Hst
  iapply (wp_words_wait idx d L q t.val (off7_eq t) (off9_eq t) (off8_eq L t)) $$ [-]
  isplitl [Hf]; · iexact Hf
  isplitl [HO]; · iexact HO
  isplitr; · iexact Hmw
  iintro ⟨Hs, Hi, Hxi, HO⟩
  ihave Hout := (outSide_take tab idx d L t.val) $$ Hout
  icases Hout with ⟨⟨Hr, Hxo⟩, Hend⟩
  iapply (wp_stream tab idx d L q t.val hidx (off11_eq t) (off10_eq t)) $$ [-]
  isplitl [Ht]; · iexact Ht
  isplitl [Hs]; · iexact Hs
  isplitl [Hr]; · iexact Hr
  isplitl [Hx]; · iexact Hx
  isplitl [HO]; · iexact HO
  isplitr; · iexact Hmw
  iintro ⟨Ht, Hs, Hr, Hx, HO⟩
  simp only [wp_pure]
  imodintro
  ihave Hrows := (Entails.of_eq (rowsSt_take tab idx o0 d L ⟨t.val, ht⟩)) $$ Hrows
  icases Hrows with ⟨Hb, Hrows⟩
  iapply (wp_rows_start tab idx d L t.val o0 (off12_eq t) (off14_eq t) (off13_eq L t)) $$ [-]
  isplitl [Hr]; · iexact Hr
  isplitl [Hb]; · iexact Hb
  isplitl [Hxo]; · iexact Hxo
  iintro Hfo
  iapply (wp_end_if tab idx d L t) $$ [-]
  isplitl [Hend]; · iexact Hend
  isplitl [HO]; · iexact HO
  isplitr; · iexact Hmw
  iintro ⟨Hidle, Hb, HO⟩
  isplitr
  · ipureintro
    clear hidx e ht
    revert L t
    decide +kernel
  isplitr; · iexact Hmw
  isplitl [Hst Hs Hi Hxi]
  · iapply (inSide_put idx d L q t.val ht) $$ [-]
    isplitl [Hst]; · iexact Hst
    unfold idleI
    isplitl [Hi]; · iexact Hi
    isplitl [Hs]; · iexists _; iexact Hs
    iexact Hxi
  isplitl [Hfo Hidle]
  · unfold outSide
    rw [if_neg (by omega)]
    isplitl [Hfo]; · iexact Hfo
    iexact Hidle
  isplitl [Hb Hrows]
  · iapply (rowsSt_put tab idx o0 d L ⟨t.val, ht⟩) $$ [-]
    isplitl [Hb]; · iexact Hb
    iexact Hrows
  isplitl [Ht]; · iexact Ht
  isplitl [Hx]; · iexact Hx
  iexact HO

end Loop

end Cert.K

end
-- ==== Proof.TileOwn.lean ====
/-
  The gather on one vector subcore: from a share of the index words and of the table, and the subcore's five blocks of
  the array, it writes the five blocks' gathered rows.
-/
module

public import proofs.«01_k».proof.Proof.TileLoop
public import Idealize.ShloMosaic.Lib.SparseCore.Threads

@[expose] public section

noncomputable section

namespace Cert.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.SparseCore (V)

variable {F : FTy → Type} [FloatOps F]

local notation "𝕄" => MT nD τ sig (HIx 1) (Elt F) ℕ UU ℕ
local notation "tabM" => (Memref.whole Cert.KernelIdeal.main_v1_scv : Memref Cert.KernelIdeal.sig Kind.scVector Space.hbm Cert.KernelIdeal.S50000x128 EltTy.f32)
local notation "idxM" => (Memref.whole Cert.KernelIdeal.main_v3_scv : Memref Cert.KernelIdeal.sig Kind.scVector Space.hbm Cert.KernelIdeal.S1x20480 EltTy.i32)
local notation "outM" => (Memref.whole Cert.KernelIdeal.main_v4_scv : Memref Cert.KernelIdeal.sig Kind.scVector Space.hbm Cert.KernelIdeal.S20480x128 EltTy.f32)
local notation "sIM" => (Memref.whole Cert.KernelIdeal.cc0_scoped0 : Memref Cert.KernelIdeal.sig Kind.scVector Space.vmem Cert.KernelIdeal.S2x1x128 EltTy.i32)
local notation "sRM" => (Memref.whole Cert.KernelIdeal.cc0_scoped2 : Memref Cert.KernelIdeal.sig Kind.scVector Space.vmem Cert.KernelIdeal.S2x128x128 EltTy.f32)

open Idealize.ShloMosaic.SparseCore.Cfg (Pay ownBufs ownSems0 ownCells ownRefs mem_ownCells)

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

section Tile

variable (tab : Vec F S50000x128 .f32) (idx : Vec F S1x20480 .i32) (o0 : Vec F S20480x128 .f32)
variable (d : Dev nD) (L : grid0.Coords) (q : PosShare TreeShare)

/-! ## The two slots of a scratch buffer are the buffer -/

theorem mem_islot (s : ℕ) (j : S2x1x128.Idx) : j ∈ ((islotW s).view.set : Finset S2x1x128.Idx) ↔ (j 0).val = s % 2 := by
  rw [show ((islotW s).view.set : Finset S2x1x128.Idx) = (Rect.unit (s := S2x1x128) (slotOff s) S1x1x128.size (slot_inb s)).set from
    (View.set_reshape _ _).trans (View.set_slice_whole _ _), Rect.mem_set_unit]
  constructor
  · intro h
    have h0 : s % 2 ≤ (j 0).val ∧ (j 0).val < s % 2 + 1 := h 0
    omega
  · intro h a
    match a with
    | 0 => exact (show s % 2 ≤ (j 0).val ∧ (j 0).val < s % 2 + 1 by omega)
    | 1 => exact ⟨Nat.zero_le _, by have h1 := (j 1).isLt; show (j 1).val < 0 + 1; exact (Nat.zero_add 1).symm ▸ h1⟩
    | 2 => exact ⟨Nat.zero_le _, by have h1 := (j 2).isLt; show (j 2).val < 0 + 128; exact (Nat.zero_add 128).symm ▸ h1⟩

theorem mem_rslot (s : ℕ) (j : S2x128x128.Idx) : j ∈ ((rslotW s).view.set : Finset S2x128x128.Idx) ↔ (j 0).val = s % 2 := by
  rw [show ((rslotW s).view.set : Finset S2x128x128.Idx) = (Rect.unit (s := S2x128x128) (slotOff s) S1x128x128.size (rslot_inb s)).set from
    (View.set_reshape _ _).trans (View.set_slice_whole _ _), Rect.mem_set_unit]
  constructor
  · intro h
    have h0 : s % 2 ≤ (j 0).val ∧ (j 0).val < s % 2 + 1 := h 0
    omega
  · intro h a
    match a with
    | 0 => exact (show s % 2 ≤ (j 0).val ∧ (j 0).val < s % 2 + 1 by omega)
    | 1 => exact ⟨Nat.zero_le _, by have h1 := (j 1).isLt; show (j 1).val < 0 + 128; exact (Nat.zero_add 128).symm ▸ h1⟩
    | 2 => exact ⟨Nat.zero_le _, by have h1 := (j 2).isLt; show (j 2).val < 0 + 128; exact (Nat.zero_add 128).symm ▸ h1⟩

abbrev iset (s : ℕ) : Finset S2x1x128.Idx := (islotW s).view.set
abbrev rset (s : ℕ) : Finset S2x128x128.Idx := (rslotW s).view.set

theorem iset_disj : Disjoint (iset 0) (iset 1) :=
  Finset.disjoint_left.mpr fun j h0 h1 => by rw [mem_islot] at h0 h1; omega
theorem iset_union : iset 0 ∪ iset 1 = Finset.univ :=
  Finset.eq_univ_iff_forall.mpr fun j => Finset.mem_union.mpr (by
    rw [mem_islot, mem_islot]; have h : (j 0).val < 2 := (j 0).isLt; omega)
theorem rset_disj : Disjoint (rset 0) (rset 1) :=
  Finset.disjoint_left.mpr fun j h0 h1 => by rw [mem_rslot] at h0 h1; omega
theorem rset_union : rset 0 ∪ rset 1 = Finset.univ :=
  Finset.eq_univ_iff_forall.mpr fun j => Finset.mem_union.mpr (by
    rw [mem_rslot, mem_rslot]; have h : (j 0).val < 2 := (j 0).isLt; omega)

abbrev sIat (f : Vec F S2x1x128 .i32) : sProp 𝕄 := (thr d L).loc cc0_scoped0 ↦{fullShare} f
abbrev sRat (f : Vec F S2x128x128 .f32) : sProp 𝕄 := (thr d L).loc cc0_scoped2 ↦{fullShare} f

theorem slotI_split (f : Vec F S2x1x128 .i32) : (sIat d L f : sProp 𝕄) = iprop(slotI d L 0 f ∗ slotI d L 1 f) := by
  rw [show (sIat d L f : sProp 𝕄) = (thr d L).loc cc0_scoped0 ↦[iset 0 ∪ iset 1]{fullShare} f from by rw [iset_union]]
  have hu : ((thr d L).loc cc0_scoped0 ↦[iset 0 ∪ iset 1]{fullShare} f : sProp 𝕄)
      ⊣⊢ iprop(((thr d L).loc cc0_scoped0 ↦[iset 0]{fullShare} f) ∗ (thr d L).loc cc0_scoped0 ↦[iset 1]{fullShare} f) :=
    pointsTo_union (show Disjoint (iset 0) (iset 1) from iset_disj)
  exact BI.equiv_iff.mp ⟨hu.1, hu.2⟩
theorem slotR_split (f : Vec F S2x128x128 .f32) : (sRat d L f : sProp 𝕄) = iprop(slotR d L 0 f ∗ slotR d L 1 f) := by
  rw [show (sRat d L f : sProp 𝕄) = (thr d L).loc cc0_scoped2 ↦[rset 0 ∪ rset 1]{fullShare} f from by rw [rset_union]]
  have hu : ((thr d L).loc cc0_scoped2 ↦[rset 0 ∪ rset 1]{fullShare} f : sProp 𝕄)
      ⊣⊢ iprop(((thr d L).loc cc0_scoped2 ↦[rset 0]{fullShare} f) ∗ (thr d L).loc cc0_scoped2 ↦[rset 1]{fullShare} f) :=
    pointsTo_union (show Disjoint (rset 0) (rset 1) from rset_disj)
  exact BI.equiv_iff.mp ⟨hu.1, hu.2⟩

theorem slotI_join : iprop((∃ f, slotI d L 0 f) ∗ ∃ f, slotI d L 1 f) ⊢ (iprop(∃ f, sIat d L f) : sProp 𝕄) := by
  iintro ⟨⟨%f, Hf⟩, ⟨%g, Hg⟩⟩
  iexists (fun j : S2x1x128.Idx => if (j 0).val = 0 then f j else g j)
  rw [slotI_split]
  isplitl [Hf]
  · iapply (Entails.of_eq (pointsTo_congr fun j hj => (if_pos ((mem_islot 0 j).mp hj)).symm)) $$ Hf
  · iapply (Entails.of_eq (pointsTo_congr fun j hj => (if_neg (by have := (mem_islot 1 j).mp hj; omega)).symm)) $$ Hg
theorem slotR_join : iprop((∃ f, slotR d L 0 f) ∗ ∃ f, slotR d L 1 f) ⊢ (iprop(∃ f, sRat d L f) : sProp 𝕄) := by
  iintro ⟨⟨%f, Hf⟩, ⟨%g, Hg⟩⟩
  iexists (fun j : S2x128x128.Idx => if (j 0).val = 0 then f j else g j)
  rw [slotR_split]
  isplitl [Hf]
  · iapply (Entails.of_eq (pointsTo_congr fun j hj => (if_pos ((mem_rslot 0 j).mp hj)).symm)) $$ Hf
  · iapply (Entails.of_eq (pointsTo_congr fun j hj => (if_neg (by have := (mem_rslot 1 j).mp hj; omega)).symm)) $$ Hg

/-! ## The subcore's own buffers and semaphores -/

abbrev scell (k : Fin 5) : GSem nD τ sig :=
  (thr d L, .dma (match k with | 0 => (inSem 0).sem | 1 => (inSem 1).sem | 2 => (outSem 0).sem | 3 => (outSem 1).sem | 4 => cc0_scoped4.sem))

theorem scell_inj : Function.Injective (scell d L) := by
  intro a b h
  have h2 : (scell d L a).2 = (scell d L b).2 := congrArg Prod.snd h
  revert a b
  have key : ∀ a b : Fin 5, (SemLoc.dma (match a with | 0 => (inSem 0).sem | 1 => (inSem 1).sem | 2 => (outSem 0).sem | 3 => (outSem 1).sem | 4 => cc0_scoped4.sem) : SemLoc sig)
      = .dma (match b with | 0 => (inSem 0).sem | 1 => (inSem 1).sem | 2 => (outSem 0).sem | 3 => (outSem 1).sem | 4 => cc0_scoped4.sem) → a = b := by decide +kernel
  exact fun a b _ h2 => key a b h2

theorem scell_own (k : Fin 5) : scell d L k ∈ ownCells (thr d L) :=
  mem_ownCells.mpr ⟨rfl, by
    revert k
    show ∀ k : Fin 5, (SemLoc.dma (match k with | 0 => (inSem 0).sem | 1 => (inSem 1).sem | 2 => (outSem 0).sem | 3 => (outSem 1).sem | 4 => cc0_scoped4.sem) : SemLoc sig).isScoped .scVector = true
    decide +kernel⟩

/-- The rest of the subcore's semaphores, and of its buffers. -/
abbrev semsRest : sProp 𝕄 := bigSep (ownCells (thr d L) \ Finset.univ.image (scell d L)) fun g => semVal g 0
abbrev bufsRest : sProp 𝕄 := bigSep (((ownRefs (τ := τ) (.scVector (cV L) (jV L))).erase ((Proc.scVector (cV L) (jV L)).devRef cc0_scoped0)).erase
              ((Proc.scVector (cV L) (jV L)).devRef cc0_scoped2)) fun b => iprop(∃ f, ((d, b) : Loc nD τ sig) ↦{fullShare} f)

theorem sems_eq : (ownSems0 (thr d L) : sProp 𝕄) = iprop((bigSep Finset.univ fun k : Fin 5 => semVal (scell d L k) 0) ∗ semsRest d L) := by
  unfold SparseCore.Cfg.ownSems0
  have hsub : Finset.univ.image (scell d L) ⊆ ownCells (thr d L) := by
    intro g hg
    obtain ⟨k, -, rfl⟩ := Finset.mem_image.mp hg
    exact scell_own d L k
  rw [SparseCore.bigSep_sdiff_split' hsub, SparseCore.bigSep_image_of_injOn (scell_inj d L).injOn]

theorem bufs_eq : (ownBufs (thr d L) : sProp 𝕄) = iprop((∃ f, sIat d L f) ∗ (∃ f, sRat d L f) ∗ bufsRest d L) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]
  rfl

end Tile

end Cert.K

end
-- ==== Proof.Tile.lean ====
/-
  The gather's task on one vector subcore, start to end.
-/
module

public import proofs.«01_k».proof.Proof.TileOwn

@[expose] public section

noncomputable section

namespace Cert.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.SparseCore (V)

variable {F : FTy → Type} [FloatOps F]

local notation "𝕄" => MT nD τ sig (HIx 1) (Elt F) ℕ UU ℕ
local notation "tabM" => (Memref.whole Cert.KernelIdeal.main_v1_scv : Memref Cert.KernelIdeal.sig Kind.scVector Space.hbm Cert.KernelIdeal.S50000x128 EltTy.f32)
local notation "idxM" => (Memref.whole Cert.KernelIdeal.main_v3_scv : Memref Cert.KernelIdeal.sig Kind.scVector Space.hbm Cert.KernelIdeal.S1x20480 EltTy.i32)
local notation "outM" => (Memref.whole Cert.KernelIdeal.main_v4_scv : Memref Cert.KernelIdeal.sig Kind.scVector Space.hbm Cert.KernelIdeal.S20480x128 EltTy.f32)
local notation "sIM" => (Memref.whole Cert.KernelIdeal.cc0_scoped0 : Memref Cert.KernelIdeal.sig Kind.scVector Space.vmem Cert.KernelIdeal.S2x1x128 EltTy.i32)
local notation "sRM" => (Memref.whole Cert.KernelIdeal.cc0_scoped2 : Memref Cert.KernelIdeal.sig Kind.scVector Space.vmem Cert.KernelIdeal.S2x128x128 EltTy.f32)

open Idealize.ShloMosaic.SparseCore.Cfg (Pay ownBufs ownSems0 ownCells ownRefs mem_ownCells)

section Body

variable (tab : Vec F S50000x128 .f32) (idx : Vec F S1x20480 .i32) (o0 : Vec F S20480x128 .f32)
variable (d : Dev nD) (L : grid0.Coords) (q : PosShare TreeShare)

/-- A subcore's five blocks of the array, at contents `f`. -/
abbrev blks (f : Vec F S20480x128 .f32) : sProp 𝕄 := bigSep Finset.univ fun n : Fin 5 => blk d L n f

theorem idx_halves : (idxP idx d L q : sProp 𝕄) ⊢ iprop(idxP idx d L (half q 0) ∗ idxP idx d L (half q 1)) :=
  (pointsTo_share (PosShare.mem_left_op_right q)).1
theorem idx_whole : iprop(idxP idx d L (half q 0) ∗ idxP idx d L (half q 1)) ⊢ (idxP idx d L q : sProp 𝕄) :=
  (pointsTo_share (PosShare.mem_left_op_right q)).2

theorem scells_eq : (bigSep Finset.univ fun k : Fin 5 => semVal (scell d L k) 0)
    = (iprop(semVal (thr d L, SemLoc.dma (inSem 0).sem) 0 ∗ semVal (thr d L, SemLoc.dma (inSem 1).sem) 0
      ∗ semVal (thr d L, SemLoc.dma (outSem 0).sem) 0 ∗ semVal (thr d L, SemLoc.dma (outSem 1).sem) 0 ∗ semVal (thr d L, SemLoc.dma cc0_scoped4.sem) 0) : sProp 𝕄) :=
  bigSep_univ_eq_bigSepL [(0 : Fin 5), (1 : Fin 5), (2 : Fin 5), (3 : Fin 5), (4 : Fin 5)] (by decide) (by decide) _

set_option maxHeartbeats 4000000 in
theorem tile_body (hidx : ∀ j, (idx j).toNat < 50000) (O : CellTallies nD τ sig (HIx 1)) (W : Waits sig (HIx 1)) (hO : ∀ g, O g none = 0) :
    iprop(levAts (K (F := F)).L (K (F := F)).lev ∗ emp ∗ (idxP idx d L q ∗ tabP tab d L q ∗ blks d L o0)
        ∗ scopedBufs (thr d L) ∗ scopedSems0 (thr d L) ∗ owes (thr d L) O W)
      ⊢ wp frame (wpE (defs₀ (F := F)) 𝒱₀ (thr d L) none) Set.univ
          (cc0_gather_kernel L tabM (Memref.isWhole_whole _) idxM (Memref.isWhole_whole _) outM (Memref.isWhole_whole _) sIM (Memref.isWhole_whole _) cc0_scoped1
            sRM (Memref.isWhole_whole _) cc0_scoped3 cc0_scoped4)
          fun _ => iprop((idxP idx d L q ∗ tabP tab d L q ∗ blks d L (gatherRows tab idx))
            ∗ scopedBufs (thr d L) ∗ scopedSems0 (thr d L) ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), sems_eq, bufs_eq, scells_eq]
  simp only [cc0_gather_kernel_eq_skeleton, cc0_gather_kernel_skel, k0_part3_eq_skeleton, k0_part3_skel, k0_part4_eq_skeleton, k0_part4_skel, wp_bind]
  iintro ⟨#Hlv, -, ⟨Hi, Ht, Hb⟩, ⟨⟨%fI, HsI⟩, ⟨%fR, HsR⟩, Hbr⟩, ⟨⟨Hx0, Hx1, Hy0, Hy1, Hxg⟩, Hsr⟩, HO⟩
  ihave #Hmw := (show levAts (K (F := F)).L (K (F := F)).lev ⊢ Transfers.MayWaits (thr d L) (default : HIx 1) O
    from (K (F := F)).mayWaits_none (thr := thr d L) hO) $$ Hlv
  ihave Hi := (idx_halves idx d L q) $$ Hi
  icases Hi with ⟨Hi0, Hi1⟩
  ihave HsI := (Entails.of_eq (slotI_split d L fI)) $$ HsI
  icases HsI with ⟨HsI0, HsI1⟩
  ihave HsR := (Entails.of_eq (slotR_split d L fR)) $$ HsR
  icases HsR with ⟨HsR0, HsR1⟩
  iapply (wp_words_start idx d L q 0 off1_eq' off3_eq' (off2_eq' L)) $$ [-]
  isplitl [Hi0]; · iexact Hi0
  isplitl [HsI0]; · iexists _; iexact HsI0
  isplitl [Hx0]; · iexact Hx0
  iintro Hf
  simp only [wp_pure]
  imodintro
  iapply (Scf.wp_for frame (wpE (defs₀ (F := F)) 𝒱₀ (thr d L) none) Set.univ _ _ _ k0_t1_ok _ _ (inv tab idx o0 d L q O W)
    (fun t acc => trip tab idx o0 d L q O W hidx t acc)) $$ [-]
  isplitl [Hf Hi1 HsI1 Hx1 HsR0 HsR1 Hy0 Hy1 Hxg Hb Ht HO]
  · unfold inv
    isplitr; · ipureintro; decide
    isplitr; · iexact Hmw
    isplitl [Hf Hi1 HsI1 Hx1]
    · unfold inSide idleI
      rw [if_pos (by decide)]
      isplitl [Hf]; · iexact Hf
      isplitl [Hi1]; · iexact Hi1
      isplitl [HsI1]; · iexists _; iexact HsI1
      iexact Hx1
    isplitl [HsR0 HsR1 Hy0 Hy1]
    · unfold outSide idleR
      rw [if_pos rfl]
      isplitl [HsR0 Hy0]
      · isplitl [HsR0]; · iexists _; iexact HsR0
        iexact Hy0
      isplitl [HsR1]; · iexists _; iexact HsR1
      iexact Hy1
    isplitl [Hb]
    · rw [rowsSt_zero]; iexact Hb
    isplitl [Ht]; · iexact Ht
    isplitl [Hxg]; · iexact Hxg
    iexists W
    isplitr; · ipureintro; exact fun p hp => .inl hp
    iexact HO
  rw [show Scf.trips k0_t1_loop.lb k0_t1_loop.ub k0_t1_loop.st = 5 from trips_eq]
  iintro %acc Hinv
  ihave Hinv := (Entails.of_eq (show inv tab idx o0 d L q O W 5 acc = iprop(⌜acc = accOf 5⌝ ∗ Transfers.MayWaits (thr d L) (default : HIx 1) O
    ∗ iprop(idleI idx d L q 5 ∗ idleI idx d L q 6) ∗ iprop(flightOut tab idx d L 4 ∗ idleR d L 5) ∗ rowsSt tab idx o0 d L 5
    ∗ tabP tab d L q ∗ semVal (thr d L, SemLoc.dma cc0_scoped4.sem) 0 ∗ owesB d L O W) from rfl)) $$ Hinv
  rw [idleI_congr idx d L q (s := 5) (s' := 1) rfl, idleI_congr idx d L q (s := 6) (s' := 0) rfl, idleR_congr d L (s := 5) (s' := 1) rfl]
  unfold idleI idleR
  icases Hinv with ⟨%hacc, -, ⟨⟨Hi1, HsI1, Hx1⟩, ⟨Hi0, HsI0, Hx0⟩⟩, ⟨Hfo, HsR1, Hy1⟩, Hrows, Ht, Hxg, HO⟩
  subst hacc
  iapply (assume_intro d L (chk5_ok L))
  iapply (assume_intro d L chk4_ok)
  imodintro
  iapply (wp_rows_wait tab idx d L 4 off21_eq off20_eq (off19_eq L)) $$ [-]
  isplitl [Hfo]; · iexact Hfo
  isplitl [HO]; · iexact HO
  isplitr; · iexact Hmw
  iintro ⟨Hb, HsR0, Hy0, HO⟩
  imodintro
  isplitl [Hi0 Hi1 Ht Hb Hrows]
  · isplitl [Hi0 Hi1]
    · iapply (idx_whole idx d L q) $$ [-]
      isplitl [Hi0]; · iexact Hi0
      iexact Hi1
    isplitl [Ht]; · iexact Ht
    iapply (rowsSt_last tab idx o0 d L) $$ [-]
    isplitl [Hb]; · iexact Hb
    iexact Hrows
  isplitl [HsI0 HsI1 HsR0 HsR1 Hbr]
  · isplitl [HsI0 HsI1]
    · iapply (slotI_join d L) $$ [-]
      isplitl [HsI0]; · iexact HsI0
      iexact HsI1
    isplitl [HsR0 HsR1]
    · iapply (slotR_join d L) $$ [-]
      isplitl [HsR0]; · iexists _; iexact HsR0
      iexact HsR1
    iexact Hbr
  isplitl [Hx0 Hx1 Hy0 Hy1 Hxg Hsr]
  · isplitr [Hsr]
    · isplitl [Hx0]; · iexact Hx0
      isplitl [Hx1]; · iexact Hx1
      isplitl [Hy0]; · iexact Hy0
      isplitl [Hy1]; · iexact Hy1
      iexact Hxg
    iexact Hsr
  iexact HO

end Body

end Cert.K

end
-- ==== Proof.Deal.lean ====
/-
  The gather's call dealt to its thirty-two tasks: each its five blocks of the result, and a share of the list and of the table.
-/
module

public import proofs.«01_k».proof.Proof.Tile

@[expose] public section

noncomputable section

namespace Cert.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.SparseCore (V)

variable {F : FTy → Type} [FloatOps F]

local notation "𝕄" => MT nD τ sig (HIx 1) (Elt F) ℕ UU ℕ
local notation "tabM" => (Memref.whole Cert.KernelIdeal.main_v1_scv : Memref Cert.KernelIdeal.sig Kind.scVector Space.hbm Cert.KernelIdeal.S50000x128 EltTy.f32)
local notation "idxM" => (Memref.whole Cert.KernelIdeal.main_v3_scv : Memref Cert.KernelIdeal.sig Kind.scVector Space.hbm Cert.KernelIdeal.S1x20480 EltTy.i32)
local notation "outM" => (Memref.whole Cert.KernelIdeal.main_v4_scv : Memref Cert.KernelIdeal.sig Kind.scVector Space.hbm Cert.KernelIdeal.S20480x128 EltTy.f32)
local notation "sIM" => (Memref.whole Cert.KernelIdeal.cc0_scoped0 : Memref Cert.KernelIdeal.sig Kind.scVector Space.vmem Cert.KernelIdeal.S2x1x128 EltTy.i32)
local notation "sRM" => (Memref.whole Cert.KernelIdeal.cc0_scoped2 : Memref Cert.KernelIdeal.sig Kind.scVector Space.vmem Cert.KernelIdeal.S2x128x128 EltTy.f32)

open Idealize.ShloMosaic.SparseCore.Cfg (Pay ownBufs ownSems0 ownCells ownRefs mem_ownCells)

/-! ## Shares -/

/-- Leaf `i` of a share halved `n` times. -/
def leafShare : ℕ → PosShare TreeShare → ℕ → PosShare TreeShare
  | 0, q, _ => q
  | n + 1, q, i => if i < 2 ^ n then leafShare n q.left i else leafShare n q.right (i - 2 ^ n)

omit [FloatOps F] in
/-- The first `m + k` of a family are its first `m` and the next `k`. -/
theorem bigSep_range_split (Φ : ℕ → sProp 𝕄) (m k : ℕ) :
    bigSep (Finset.range (m + k)) Φ = iprop(bigSep (Finset.range m) Φ ∗ bigSep (Finset.range k) fun i => Φ (m + i)) := by
  rw [show Finset.range (m + k) = Finset.range m ∪ (Finset.range k).map (addLeftEmbedding m) by
      ext x; simp only [Finset.mem_range, Finset.mem_union, Finset.mem_map, addLeftEmbedding_apply]
      constructor
      · intro h; by_cases hx : x < m
        · exact .inl hx
        · exact .inr ⟨x - m, by omega, by omega⟩
      · rintro (h | ⟨a, h, rfl⟩) <;> omega,
    BI.bigSep_union (Finset.disjoint_left.mpr fun x h1 h2 => by
      simp only [Finset.mem_range, Finset.mem_map, addLeftEmbedding_apply] at h1 h2
      obtain ⟨a, _, rfl⟩ := h2; omega), BI.bigSep_map]
  rfl

omit [FloatOps F] in
theorem bigSep_fin (n : ℕ) (Φ : ℕ → sProp 𝕄) : (bigSep Finset.univ fun i : Fin n => Φ i.val) = bigSep (Finset.range n) Φ := by
  rw [show Finset.range n = (Finset.univ : Finset (Fin n)).map Fin.valEmbedding by
    ext i; simp only [Finset.mem_range, Finset.mem_map, Finset.mem_univ, Fin.valEmbedding_apply, true_and]
    exact ⟨fun h => ⟨⟨i, h⟩, rfl⟩, fun ⟨j, hj⟩ => hj ▸ j.isLt⟩, BI.bigSep_map]
  rfl

omit [FloatOps F] in
theorem leaves {ℓ : Loc nD τ sig} (I : Finset (Idx ℓ)) (f : Buf (Elt F) ℓ) : ∀ (n : ℕ) (q : PosShare TreeShare),
    (ℓ ↦[I]{q} f : sProp 𝕄) = bigSep (Finset.range (2 ^ n)) fun i => ℓ ↦[I]{leafShare n q i} f
  | 0, q => (BI.bigSep_singleton (i := 0) (Φ := fun i => (ℓ ↦[I]{leafShare 0 q i} f : sProp 𝕄))).symm
  | n + 1, q => by
    have hs := pointsTo_share (ℓ := ℓ) (I := I) (f := f) (PosShare.mem_left_op_right q) (Ix := HIx 1) (Name := ℕ) (U := UU) (Lvl := ℕ)
    rw [show (ℓ ↦[I]{q} f : sProp 𝕄) = iprop((ℓ ↦[I]{q.left} f) ∗ ℓ ↦[I]{q.right} f) from BI.equiv_iff.mp ⟨hs.1, hs.2⟩,
      leaves I f n q.left, leaves I f n q.right, show 2 ^ (n + 1) = 2 ^ n + 2 ^ n by rw [Nat.pow_succ, Nat.mul_two], bigSep_range_split]
    congr 1
    · exact bigSep_congr fun i hi => by rw [leafShare, if_pos (Finset.mem_range.mp hi)]
    · exact bigSep_congr fun i _ => by rw [leafShare, if_neg (by omega), Nat.add_sub_cancel_left]

/-- Task `(c, s)`'s share. -/
def tq (c s : ℕ) : PosShare TreeShare := leafShare 4 (leafShare 1 fullShare c) s

omit [FloatOps F] in
/-- A buffer whole is the tasks' shares of it. -/
theorem whole_shares {ℓ : Loc nD τ sig} (f : Buf (Elt F) ℓ) :
    (ℓ ↦{fullShare} f : sProp 𝕄) = bigSep Finset.univ fun c : Fin 2 => bigSep Finset.univ fun s : Fin 16 => ℓ ↦{tq c.val s.val} f := by
  rw [leaves Finset.univ f 1 fullShare, ← bigSep_fin (F := F) (2 ^ 1) fun i => (ℓ ↦{leafShare 1 fullShare i} f : sProp 𝕄)]
  refine bigSep_congr fun c _ => ?_
  rw [leaves Finset.univ f 4, ← bigSep_fin (F := F) (2 ^ 4) fun i => (ℓ ↦{leafShare 4 (leafShare 1 fullShare c.val) i} f : sProp 𝕄)]
  rfl

/-! ## Blocks -/

def coordsV (c : Fin (grid0.bound 0)) (s : Fin (grid0.bound 1)) : grid0.Coords :=
  fun | 0 => c | 1 => s | ⟨_ + 2, h⟩ => absurd h (Nat.not_lt.2 (Nat.le_add_left _ _))

/-- Block `n` of task `(c, s)`. -/
abbrev blkSet (p : Fin 2 × Fin 16 × Fin 5) : Finset S20480x128.Idx := (rowW (coordsV p.1 p.2.1) p.2.2.val).view.set

theorem mem_blkSet (p : Fin 2 × Fin 16 × Fin 5) (j : S20480x128.Idx) :
    j ∈ blkSet p ↔ (j 0).val / 128 = 80 * p.1.val + 5 * p.2.1.val + p.2.2.val := by
  obtain ⟨c, s, n⟩ := p
  have hn := n.isLt
  have hmod : n.val % 5 = n.val := Nat.mod_eq_of_lt hn
  rw [show blkSet (c, s, n) = (Rect.unit (s := S20480x128) (rowOff (coordsV c s) n.val) S128x128.size (row_inb _ _)).set from
    View.set_slice_whole _ _, Rect.mem_set_unit]
  have hb : rowOff (coordsV c s) n.val 0 = 640 * s.val + 10240 * c.val + 128 * (n.val % 5) := rfl
  rw [hmod] at hb
  constructor
  · intro h
    have h0 : rowOff (coordsV c s) n.val 0 ≤ (j 0).val ∧ (j 0).val < rowOff (coordsV c s) n.val 0 + 128 := h 0
    rw [hb] at h0
    show (j 0).val / 128 = 80 * c.val + 5 * s.val + n.val
    omega
  · intro h a
    have h' : (j 0).val / 128 = 80 * c.val + 5 * s.val + n.val := h
    match a with
    | 0 =>
      show rowOff (coordsV c s) n.val 0 ≤ (j 0).val ∧ (j 0).val < rowOff (coordsV c s) n.val 0 + 128
      rw [hb]; omega
    | 1 => exact ⟨Nat.zero_le _, by have h1 := (j 1).isLt; show (j 1).val < 0 + 128; exact (Nat.zero_add 128).symm ▸ h1⟩

theorem blks_disjoint : ∀ p ∈ (Finset.univ : Finset (Fin 2 × Fin 16 × Fin 5)), ∀ p' ∈ (Finset.univ : Finset (Fin 2 × Fin 16 × Fin 5)),
    p ≠ p' → Disjoint (blkSet p) (blkSet p') := by
  rintro ⟨c, s, n⟩ - ⟨c', s', n'⟩ - hne
  refine Finset.disjoint_left.mpr fun j h h' => hne ?_
  rw [mem_blkSet] at h h'
  have e : 80 * c.val + 5 * s.val + n.val = 80 * c'.val + 5 * s'.val + n'.val := h.symm.trans h'
  have := c.isLt; have := c'.isLt; have := s.isLt; have := s'.isLt; have := n.isLt; have := n'.isLt
  refine Prod.ext (Fin.ext ?_) (Prod.ext (Fin.ext ?_) (Fin.ext ?_)) <;> dsimp only <;> omega

theorem blks_cover : (Finset.univ : Finset (Fin 2 × Fin 16 × Fin 5)).biUnion blkSet = Finset.univ := by
  refine Finset.eq_univ_iff_forall.mpr fun j => Finset.mem_biUnion.mpr ?_
  have hj : (j 0).val < 20480 := (j 0).isLt
  exact ⟨(⟨(j 0).val / 128 / 80, by omega⟩, ⟨(j 0).val / 128 % 80 / 5, by omega⟩, ⟨(j 0).val / 128 % 5, by omega⟩), Finset.mem_univ _,
    (mem_blkSet _ j).mpr (by dsimp only; omega)⟩

/-- The result whole is the tasks' blocks. -/
theorem out_blks (d : Dev nD) (f : Vec F S20480x128 .f32) :
    ((SparseCore.T d : Thread nD τ).loc main_v4 ↦{fullShare} f : sProp 𝕄)
      = bigSep Finset.univ fun c : Fin 2 => bigSep Finset.univ fun s : Fin 16 => blks d (coordsV c s) f := by
  have h := pointsTo_biUnion (Val := Elt F) (Ix := HIx 1) (Name := ℕ) (U := UU) (Lvl := ℕ) (q := fullShare) (f := f) (Finset.univ : Finset (Fin 2 × Fin 16 × Fin 5)) (ℓ := (SparseCore.T d : Thread nD τ).loc main_v4) blkSet blks_disjoint
  rw [blks_cover, BI.bigSep_univ_prod] at h
  refine h.trans (bigSep_congr fun c _ => ?_)
  rw [BI.bigSep_univ_prod]

/-! ## What the call carries -/

variable (Wl : Dev nD → Valuation τ sig (Elt F))

abbrev tabOf (W : Valuation τ sig (Elt F)) : Vec F S50000x128 .f32 := W (Proc.devRef .tc main_v1)
abbrev idxOf (W : Valuation τ sig (Elt F)) : Vec F S1x20480 .i32 := W (Proc.devRef .tc main_v3)
abbrev outOf (W : Valuation τ sig (Elt F)) : Vec F S20480x128 .f32 := W (Proc.devRef .tc main_v4)

theorem nSub_zero : (K (F := F)).nSub 0 = 16 := rfl
theorem nCore_zero : (K (F := F)).nCore 0 = 2 := rfl

/-- What task `(c, s)` takes and brings back, its blocks of the result at `f`. -/
abbrev taskP (d : Dev nD) (c : Fin 2) (s : Fin 16) (f : Vec F S20480x128 .f32) : sProp 𝕄 :=
  iprop(idxP (idxOf (Wl d)) d (coordsV c s) (tq c.val s.val) ∗ tabP (tabOf (Wl d)) d (coordsV c s) (tq c.val s.val) ∗ blks d (coordsV c s) f)
abbrev coreP (d : Dev nD) (c : Fin 2) (f : Vec F S20480x128 .f32) : sProp 𝕄 := bigSep Finset.univ fun s : Fin 16 => taskP Wl d c s f

/-- The list, the table and the result whole are the tasks' parts. -/
theorem call_parts (d : Dev nD) (f : Vec F S20480x128 .f32) :
    (bigSep Finset.univ fun c : Fin 2 => coreP Wl d c f)
      = iprop(((SparseCore.T d : Thread nD τ).loc main_v3 ↦{fullShare} idxOf (Wl d)) ∗ ((SparseCore.T d : Thread nD τ).loc main_v1 ↦{fullShare} tabOf (Wl d))
          ∗ ((SparseCore.T d : Thread nD τ).loc main_v4 ↦{fullShare} f)) := by
  rw [out_blks, whole_shares (F := F) (ℓ := (SparseCore.T d : Thread nD τ).loc main_v3), whole_shares (F := F) (ℓ := (SparseCore.T d : Thread nD τ).loc main_v1),
    ← bigSep_sep', ← bigSep_sep']
  refine bigSep_congr fun c _ => ?_
  rw [← bigSep_sep', ← bigSep_sep']

def P : (K (F := F)).Pay (nD := nD) (Val := Elt F) (Name := ℕ) (U := UU) where
  st := fun q d c => match q with | 0 => coreP Wl d (Fin.cast nCore_zero c) (outOf (Wl d))
  dn := fun q d c => match q with | 0 => coreP Wl d (Fin.cast nCore_zero c) (gatherRows (tabOf (Wl d)) (idxOf (Wl d)))
  go := fun q d c i => match q with | 0 => taskP Wl d (Fin.cast nCore_zero c) (Fin.cast nSub_zero i) (outOf (Wl d))
  td := fun q d c i => match q with | 0 => taskP Wl d (Fin.cast nCore_zero c) (Fin.cast nSub_zero i) (gatherRows (tabOf (Wl d)) (idxOf (Wl d)))
  x := fun _ _ => iprop(emp)

theorem blks_storable (d : Dev nD) (L : grid0.Coords) (f : Vec F S20480x128 .f32) : BI.Storable (upEmb : UEmb _ 𝕄) (blks d L f) := by
  unfold blks; infer_instance

theorem task_storable (d : Dev nD) (c : Fin 2) (s : Fin 16) (f : Vec F S20480x128 .f32) : BI.Storable (upEmb : UEmb _ 𝕄) (taskP Wl d c s f) := by
  have := blks_storable d (coordsV c s) f
  infer_instance

theorem core_storable (d : Dev nD) (c : Fin 2) (f : Vec F S20480x128 .f32) : BI.Storable (upEmb : UEmb _ 𝕄) (coreP Wl d c f) := by
  have := fun s => task_storable Wl d c s f
  infer_instance

instance P_storable : (P Wl).IsStorable where
  st q d c := match q with | 0 => core_storable Wl d (Fin.cast nCore_zero c) _
  dn q d c := match q with | 0 => core_storable Wl d (Fin.cast nCore_zero c) _
  go q d c i := match q with | 0 => task_storable Wl d (Fin.cast nCore_zero c) (Fin.cast nSub_zero i) _
  td q d c i := match q with | 0 => task_storable Wl d (Fin.cast nCore_zero c) (Fin.cast nSub_zero i) _

/-! ## The obligations -/

theorem defs₀_vector (c : Fin τ.nSC) (s : Fin τ.nSub) :
    defs₀ (F := F) (.scVector c s) 0 ()
      = SparseCore.onTile hcore0 hsub0 (fun c s => cc0_gather_kernel (coordsV c s)
          tabM (Memref.isWhole_whole _) idxM (Memref.isWhole_whole _) outM (Memref.isWhole_whole _)
          sIM (Memref.isWhole_whole _) cc0_scoped1 sRM (Memref.isWhole_whole _) cc0_scoped3 cc0_scoped4) ⟨⟩ c s := rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

set_option maxRecDepth 16384 in
theorem tileObl (hidx : ∀ d j, (idxOf (Wl d) j).toNat < 50000) : (K (F := F)).TileObl (D (F := F)) 𝒱 (P Wl) v₀ 0 := by
  intro d c i O W hO _ _
  simp only [show (P Wl).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (tabOf (Wl d)) (idxOf (Wl d)) (outOf (Wl d)) d (coordsV ⟨_, hci.1⟩ ⟨_, hci.2⟩) (tq c.val i.val) (hidx d) O W hO).trans
    (wp_mono frame _ _ fun _ => obl_post)

theorem split_same (A B : sProp 𝕄) : A ⊢ |={Set.univ}=> iprop(A ∗ (B -∗ B)) := by
  iintro H
  imodintro
  isplitl [H]; · iexact H
  iintro H; iexact H

theorem vecSplit : (K (F := F)).VecSplit' (P Wl) 0 := fun d c =>
  split_same (coreP Wl d (Fin.cast nCore_zero c) (outOf (Wl d)))
    (coreP Wl d (Fin.cast nCore_zero c) (gatherRows (tabOf (Wl d)) (idxOf (Wl d))))

end Cert.K

end
-- ==== Proof.LseRun.lean ====
module

public import proofs.«01_k».proof.Proof.Alg
public import Idealize.ShloMosaic.Lib.VecWindow

@[expose] public section

noncomputable section

namespace Cert.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => MT nD τ sig (HIx 1) (Elt F) ℕ UU ℕ

/-- A memref held whole at contents that read `X`. -/
abbrev ow (c : Dev nD) {sp : Space} {S : Shape} {e : EltTy} (M : Memref sig .tc sp S e) (X : S.Idx → Elt F e) : sProp 𝕄 :=
  owns (c : Thread nD τ) M fullShare X

/-- The last kernel's body: from its four operands it leaves the block of results. -/
theorem outRun (c : Dev nD) (i : grid2.Coords) (M0 : Memref sig .tc .vmem S1024x64 .f32) (h0 : M0.IsWhole) (M1 : Memref sig .tc .vmem S64x1024 .bf16) (h1 : M1.IsWhole)
    (M2 : Memref sig .tc .vmem S1x1024 .f32) (h2 : M2.IsWhole) (M3 : Memref sig .tc .vmem S1024x1 .f32) (h3 : M3.IsWhole)
    (M4 : Memref sig .tc .vmem S1024x1024 .f32) (h4 : M4.IsWhole)
    (x0 : Vec F S1024x64 .f32) (x1 : Vec F S64x1024 .bf16) (x2 : Vec F S1x1024 .f32) (x3 : Vec F S1024x1 .f32) (x4 : Vec F S1024x1024 .f32) (E : Set ℕ) (Q : PUnit → sProp 𝕄) :
    iprop(ow c M0 x0 ∗ ow c M1 x1 ∗ ow c M2 x2 ∗ ow c M3 x3 ∗ ow c M4 x4
        ∗ (iprop(ow c M0 x0 ∗ ow c M1 x1 ∗ ow c M2 x2 ∗ ow c M3 x3 ∗ ow c M4 (k2_pay1 x0 x1 x2 x3)) -∗ Q ⟨⟩))
      ⊢ wp frame (wpE (defs₀ (F := F)) 𝒱₀ c none) E (cc2__out_kernel (F := F) i M0 h0 M1 h1 M2 h2 M3 h3 M4 h4) Q := by
  simp only [cc2__out_kernel_eq_skeleton]
  unfold cc2__out_kernel_skel ow owns
  iintro ⟨⟨%f0, %e0, H0⟩, ⟨%f1, %e1, H1⟩, ⟨%f2, %e2, H2⟩, ⟨%f3, %e3, H3⟩, ⟨%f4, -, H4⟩, Hk⟩
  sl_exec
  sl_step
  iapply Hk
  isplitl [H0]; · iexists f0; isplitr; · ipureintro; exact e0
                  iexact H0
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  iexists _; isplitr; swap; · iexact H4
  ipureintro
  subst e0 e1 e2 e3
  rw [View.read_writes_full, View.readAt_full, View.readAt_full, View.readAt_full, View.readAt_full]

/-- Rows `1024 k ..` of the gathered rows, and of the column of parities. -/
abbrev gk (g : Vec F S20480x128 .f32) (k : Fin 20) : Vec F S1024x128 .f32 :=
  VecWindow.window g ![1024 * k.val, 0] S1024x128.size (by have := k.isLt; intro a; fin_cases a <;> simp <;> omega)
abbrev pk (p : Vec F S20480x1 .i32) (k : Fin 20) : Vec F S1024x1 .i32 :=
  VecWindow.window p ![1024 * k.val, 0] S1024x1.size (by have := k.isLt; intro a; fin_cases a <;> simp <;> omega)

/-- The sum over the twenty rows of each example, as the kernel computes it. -/
def xsum (g : Vec F S20480x128 .f32) (p : Vec F S20480x1 .i32) : FVec F S1024x64 .f32 :=
  k1_pay13 (k1_pay10 (k1_pay9 (k1_pay6 (k1_pay4 (k1_pay2 (gk g 0) (pk (F := F) p 0) (gk g 1) (pk (F := F) p 1) (gk g 2) (pk (F := F) p 2)) (k1_pay3 (gk g 3)) (pk (F := F) p 3) (gk g 4) (pk (F := F) p 4) (gk g 5) (pk (F := F) p 5))
      (k1_pay5 (gk g 6) (pk (F := F) p 6)) (gk g 7) (pk (F := F) p 7) (gk g 8) (pk (F := F) p 8) (gk g 9) (pk (F := F) p 9)) (k1_pay7 (gk g 10)) (k1_pay8 (F := F) (pk (F := F) p 10)) (gk g 11) (pk (F := F) p 11) (gk g 12) (pk (F := F) p 12) (gk g 13) (pk (F := F) p 13))
      (gk g 14) (pk (F := F) p 14) (gk g 15) (pk (F := F) p 15) (gk g 16) (pk (F := F) p 16)) (k1_pay11 (gk g 17)) (k1_pay12 (F := F) (pk (F := F) p 17)) 0#32 (gk g 18) (pk (F := F) p 18) (gk g 19) (pk (F := F) p 19)

/-- Whether a point is the first one, as the kernel asks it. -/
abbrev isFirst (i : grid1.Coords) : Prop := Scalar.cmpi .ne (Scalar.extui (Scalar.cmpi .eq (BitVec.ofNat 32 (i 0).val) 0#32) : BitVec 32) 0#32 = 1#1

/-! A load or store of a buffer's own sizes, read as the whole contents. -/

theorem ra_1024_1 {e : EltTy} (v : View sig .tc .vmem S1024x1 e) (f : v.ty.Contents (Elt F)) (inb : ∀ a, ![0, 0] a + ![1024, 1] a ≤ S1024x1.size a) :
    v.readAt (Elt F) (Rect.unit (s := S1024x1) ![0, 0] ![1024, 1] inb).toLoadRect f = v.read (Elt F) f := View.readAt_full v f (off := ![0, 0]) inb
theorem rw_1024_1 {e : EltTy} (v : View sig .tc .vmem S1024x1 e) (f : v.ty.Contents (Elt F)) (inb : ∀ a, ![0, 0] a + ![1024, 1] a ≤ S1024x1.size a)
    (w : S1024x1.Idx → Elt F e) (L : List (View.Piece (Elt F) S1024x1 e)) :
    v.read (Elt F) (v.writes (Elt F) f (⟨Rect.unit (s := S1024x1) ![0, 0] ![1024, 1] inb, w⟩ :: L)) = w := View.read_writes_full v f (off := ![0, 0]) inb w L
theorem rc_1024_1 {e : EltTy} (v : View sig .tc .vmem S1024x1 e) (inb inb' : ∀ a, ![0, 0] a + ![1024, 1] a ≤ S1024x1.size a)
    (w : S1024x1.Idx → Elt F e) (L : List (View.Piece (Elt F) S1024x1 e)) :
    v.readCov (⟨Rect.unit (s := S1024x1) ![0, 0] ![1024, 1] inb', w⟩ :: L) (Rect.unit (s := S1024x1) ![0, 0] ![1024, 1] inb).toLoadRect = w :=
  View.readCov_full v (off := ![0, 0]) (off' := ![0, 0]) inb inb' w L
theorem ra_1024_64 {e : EltTy} (v : View sig .tc .vmem S1024x64 e) (f : v.ty.Contents (Elt F)) (inb : ∀ a, ![0, 0] a + ![1024, 64] a ≤ S1024x64.size a) :
    v.readAt (Elt F) (Rect.unit (s := S1024x64) ![0, 0] ![1024, 64] inb).toLoadRect f = v.read (Elt F) f := View.readAt_full v f (off := ![0, 0]) inb
theorem rw_1024_64 {e : EltTy} (v : View sig .tc .vmem S1024x64 e) (f : v.ty.Contents (Elt F)) (inb : ∀ a, ![0, 0] a + ![1024, 64] a ≤ S1024x64.size a)
    (w : S1024x64.Idx → Elt F e) (L : List (View.Piece (Elt F) S1024x64 e)) :
    v.read (Elt F) (v.writes (Elt F) f (⟨Rect.unit (s := S1024x64) ![0, 0] ![1024, 64] inb, w⟩ :: L)) = w := View.read_writes_full v f (off := ![0, 0]) inb w L
theorem rc_1024_64 {e : EltTy} (v : View sig .tc .vmem S1024x64 e) (inb inb' : ∀ a, ![0, 0] a + ![1024, 64] a ≤ S1024x64.size a)
    (w : S1024x64.Idx → Elt F e) (L : List (View.Piece (Elt F) S1024x64 e)) :
    v.readCov (⟨Rect.unit (s := S1024x64) ![0, 0] ![1024, 64] inb', w⟩ :: L) (Rect.unit (s := S1024x64) ![0, 0] ![1024, 64] inb).toLoadRect = w :=
  View.readCov_full v (off := ![0, 0]) (off' := ![0, 0]) inb inb' w L
theorem ra_64_1024 {e : EltTy} (v : View sig .tc .vmem S64x1024 e) (f : v.ty.Contents (Elt F)) (inb : ∀ a, ![0, 0] a + ![64, 1024] a ≤ S64x1024.size a) :
    v.readAt (Elt F) (Rect.unit (s := S64x1024) ![0, 0] ![64, 1024] inb).toLoadRect f = v.read (Elt F) f := View.readAt_full v f (off := ![0, 0]) inb
theorem ra_1_1024 {e : EltTy} (v : View sig .tc .vmem S1x1024 e) (f : v.ty.Contents (Elt F)) (inb : ∀ a, ![0, 0] a + ![1, 1024] a ≤ S1x1024.size a) :
    v.readAt (Elt F) (Rect.unit (s := S1x1024) ![0, 0] ![1, 1024] inb).toLoadRect f = v.read (Elt F) f := View.readAt_full v f (off := ![0, 0]) inb

open Classical in
set_option maxHeartbeats 2000000 in
theorem lseRun (c : Dev nD) (i : grid1.Coords) (M1 : Memref sig .tc .vmem S20480x128 .f32) (h1 : M1.IsWhole) (M2 : Memref sig .tc .vmem S20480x1 .i32) (h2 : M2.IsWhole)
    (M3 : Memref sig .tc .vmem S64x1024 .bf16) (h3 : M3.IsWhole) (M4 : Memref sig .tc .vmem S1x1024 .f32) (h4 : M4.IsWhole)
    (M5 : Memref sig .tc .vmem S1024x1 .f32) (h5 : M5.IsWhole) (M6 : Memref sig .tc .vmem S1024x64 .f32) (h6 : M6.IsWhole)
    (M7 : Memref sig .tc .vmem S1024x1 .f32) (h7 : M7.IsWhole) (M8 : Memref sig .tc .vmem S1024x1 .f32) (h8 : M8.IsWhole) (M9 : Memref sig .tc .vmem S1024x64 .f32) (h9 : M9.IsWhole)
    (g : Vec F S20480x128 .f32) (p : Vec F S20480x1 .i32) (w : Vec F S64x1024 .bf16) (b : Vec F S1x1024 .f32) (d5 : Vec F S1024x1 .f32) (d6 : Vec F S1024x64 .f32)
    (m s : Vec F S1024x1 .f32) (x : Vec F S1024x64 .f32)
    (m0 s0 : Vec F S1024x1 .f32) (x0 : Vec F S1024x64 .f32)
    (hf : isFirst i → m0 = k1_pay14 (F := F) ∧ s0 = k1_pay16 (k1_pay15 (F := F)) ∧ x0 = xsum g p) (hn : ¬ isFirst i → m0 = m ∧ s0 = s ∧ x0 = x)
    (o5 : Vec F S1024x1 .f32) (o6 : Vec F S1024x64 .f32)
    (hl : k1_cond2 i = 1#1 → o5 = k1_pay1 (k1_pay20 x0 w b m0) (k1_pay19 x0 w b m0 s0) ∧ o6 = x0) (hm : k1_cond2 i ≠ 1#1 → o5 = d5 ∧ o6 = d6)
    (E : Set ℕ) (Q : PUnit → sProp 𝕄) :
    iprop(ow c M1 g ∗ ow (F := F) c M2 p ∗ ow c M3 w ∗ ow c M4 b ∗ ow c M5 d5 ∗ ow c M6 d6 ∗ ow c M7 m ∗ ow c M8 s ∗ ow c M9 x
        ∗ (iprop(ow c M1 g ∗ ow (F := F) c M2 p ∗ ow c M3 w ∗ ow c M4 b ∗ ow c M5 o5 ∗ ow c M6 o6
            ∗ ow c M7 (k1_pay20 x0 w b m0) ∗ ow c M8 (k1_pay19 x0 w b m0 s0) ∗ ow c M9 x0) -∗ Q ⟨⟩))
      ⊢ wp frame (wpE (defs₀ (F := F)) 𝒱₀ c none) E (cc1__lse_kernel (F := F) i M1 h1 M2 h2 M3 h3 M4 h4 M5 h5 M6 h6 M7 h7 M8 h8 M9 h9) Q := by
  simp only [cc1__lse_kernel_eq_skeleton]
  unfold cc1__lse_kernel_skel
  simp only [k1_part7_eq_skeleton]
  unfold k1_part7_skel
  simp only [k1_part1_eq_skeleton, k1_part2_eq_skeleton, k1_part3_eq_skeleton, k1_part4_eq_skeleton, k1_part5_eq_skeleton, k1_part6_eq_skeleton]
  unfold k1_part1_skel k1_part2_skel k1_part3_skel k1_part4_skel k1_part5_skel k1_part6_skel ow owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, Hk⟩
  by_cases hF : isFirst i <;> by_cases hL : k1_cond2 i = 1#1
  on_goal 1 => obtain ⟨rfl, rfl, rfl⟩ := hf hF; obtain ⟨rfl, rfl⟩ := hl hL
  on_goal 2 => obtain ⟨rfl, rfl, rfl⟩ := hf hF; obtain ⟨rfl, rfl⟩ := hm hL
  on_goal 3 => obtain ⟨rfl, rfl, rfl⟩ := hn hF; obtain ⟨rfl, rfl⟩ := hl hL
  on_goal 4 => obtain ⟨rfl, rfl, rfl⟩ := hn hF; obtain ⟨rfl, rfl⟩ := hm hL
  all_goals
    sl_exec
    sl_step
    iapply Hk
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    isplitl [H4]
    · iexists f4; isplitr; · ipureintro; exact e4
      iexact H4
    subst e1 e2 e3 e4
    isplitl [H5]
    · iexists _; isplitr; swap; · iexact H5
      ipureintro
      first
        | exact e5
        | sl_unfold_words
          simp only [ra_1024_1, rw_1024_1, rc_1024_1, ra_1024_64, rw_1024_64, rc_1024_64, ra_64_1024, ra_1_1024, ← e7, ← e8, ← e9]
          try rfl
    isplitl [H6]
    · iexists _; isplitr; swap; · iexact H6
      ipureintro
      first
        | exact e6
        | sl_unfold_words
          simp only [ra_1024_1, rw_1024_1, rc_1024_1, ra_1024_64, rw_1024_64, rc_1024_64, ra_64_1024, ra_1_1024, ← e9]
          try rfl
    isplitl [H7]
    · iexists _; isplitr; swap; · iexact H7
      ipureintro
      sl_unfold_words
      simp only [ra_1024_1, rw_1024_1, rc_1024_1, ra_1024_64, rw_1024_64, rc_1024_64, ra_64_1024, ra_1_1024, ← e7, ← e8, ← e9]
      try rfl
    isplitl [H8]
    · iexists _; isplitr; swap; · iexact H8
      ipureintro
      sl_unfold_words
      simp only [ra_1024_1, rw_1024_1, rc_1024_1, ra_1024_64, rw_1024_64, rc_1024_64, ra_64_1024, ra_1_1024, ← e7, ← e8, ← e9]
      try rfl
    iexists _; isplitr; swap; · iexact H9
    ipureintro
    first
      | exact e9
      | sl_unfold_words
        simp only [ra_1024_1, rw_1024_1, rc_1024_1, ra_1024_64, rw_1024_64, rc_1024_64, ra_64_1024, ra_1_1024]
        try rfl

end Cert.K
end
-- ==== Proof.TcDats.lean ====
module

public import proofs.«01_k».proof.Proof.LseRun

@[expose] public section

noncomputable section

namespace Cert.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SparseCore.Cfg (HIx)

variable {F : FTy → Type} [FloatOps F]

local notation "𝕄" => MT nD τ sig (HIx 1) (Elt F) ℕ UU ℕ

/-! ## The points -/

theorem isFirst_iff : ∀ t : Fin cfg1.N, isFirst (cfg1.grid.coords t) ↔ t.val = 0 := by decide +kernel
theorem cond2_iff : ∀ t : Fin cfg1.N, k1_cond2 (cfg1.grid.coords t) = 1#1 ↔ t.val = 97 := by decide +kernel
theorem cfg1_N : cfg1.N = 98 := N_1
theorem cfg2_N : cfg2.N = 98 := N_2

variable (V : Valuation τ sig (Elt F))

/-! ## What the first kernel reads and computes -/

/-- The gathered rows, the parities, and the tiles of the weights and of the bias. -/
abbrev gV : Vec F S20480x128 .f32 := V (Proc.devRef .tc main_v4)
abbrev pV : Vec F S20480x1 .i32 := V (Proc.devRef .tc main_v6)
def wV (t : Fin cfg1.N) : Vec F S64x1024 .bf16 := ((cfg1.win 2).blk t).view.read (Elt F) (V (Proc.devRef .tc main_v9))
def bV (t : Fin cfg1.N) : Vec F S1x1024 .f32 := ((cfg1.win 3).blk t).view.read (Elt F) (V (Proc.devRef .tc main_v11))

/-- The summed rows. -/
def xV : Vec F S1024x64 .f32 := xsum (gV V) (pV V)

/-- The running maximum and the running sum after `n` tiles. -/
def msV : ℕ → Vec F S1024x1 .f32 × Vec F S1024x1 .f32
  | 0 => (k1_pay14, k1_pay16 k1_pay15)
  | n + 1 =>
    if h : n < cfg1.N then
      (k1_pay20 (xV V) (wV V ⟨n, h⟩) (bV V ⟨n, h⟩) (msV n).1, k1_pay19 (xV V) (wV V ⟨n, h⟩) (bV V ⟨n, h⟩) (msV n).1 (msV n).2)
    else msV n

theorem msV_succ (t : Fin cfg1.N) : msV V (t.val + 1)
    = (k1_pay20 (xV V) (wV V t) (bV V t) (msV V t.val).1, k1_pay19 (xV V) (wV V t) (bV V t) (msV V t.val).1 (msV V t.val).2) := by
  rw [msV, dif_pos t.isLt]

/-- The logarithm of the sum of the exponentials, as the kernel leaves it. -/
def lseV : Vec F S1024x1 .f32 := k1_pay1 (msV V 98).1 (msV V 98).2

/-! ## The first kernel's proof data -/

/-! A window of one block reads its whole array. -/

theorem cover1_0 (t : Fin cfg1.N) (f : Vec F S20480x128 .f32) : ((cfg1.win 0).blk t).view.read (Elt F) f = f := by
  funext j
  show f (((cfg1.win 0).blk t).view.emb j) = f j
  congr 1
  funext a
  refine Fin.ext ?_
  match a with
  | ⟨0, _⟩ => show 0 * 20480 + 1 * (j 0).val = (j 0).val; omega
  | ⟨1, _⟩ => show 0 * 128 + 1 * (j 1).val = (j 1).val; omega

theorem cover1_1 (t : Fin cfg1.N) (f : Vec F S20480x1 .i32) : ((cfg1.win 1).blk t).view.read (Elt F) f = f := by
  funext j
  show f (((cfg1.win 1).blk t).view.emb j) = f j
  congr 1
  funext a
  refine Fin.ext ?_
  match a with
  | ⟨0, _⟩ => show 0 * 20480 + 1 * (j 0).val = (j 0).val; omega
  | ⟨1, _⟩ => show 0 * 1 + 1 * (j 1).val = (j 1).val; omega

theorem cover2_0 (t : Fin cfg2.N) (f : Vec F S1024x64 .f32) : ((cfg2.win 0).blk t).view.read (Elt F) f = f := by
  funext j
  show f (((cfg2.win 0).blk t).view.emb j) = f j
  congr 1
  funext a
  refine Fin.ext ?_
  match a with
  | ⟨0, _⟩ => show 0 * 1024 + 1 * (j 0).val = (j 0).val; omega
  | ⟨1, _⟩ => show 0 * 64 + 1 * (j 1).val = (j 1).val; omega

theorem cover2_3 (t : Fin cfg2.N) (f : Vec F S1024x1 .f32) : ((cfg2.win 3).blk t).view.read (Elt F) f = f := by
  funext j
  show f (((cfg2.win 3).blk t).view.emb j) = f j
  congr 1
  funext a
  refine Fin.ext ?_
  match a with
  | ⟨0, _⟩ => show 0 * 1024 + 1 * (j 0).val = (j 0).val; omega
  | ⟨1, _⟩ => show 0 * 1 + 1 * (j 1).val = (j 1).val; omega

/-- The scoped buffers of the other kernel. -/
def rest1 (c : Dev nD) : sProp 𝕄 :=
  iprop((∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg4_1), ((c : Thread nD τ).loc cc2_stg4_1) ↦{fullShare} f))

/-- Before point `n`: the three scratch buffers, past the first point at what `n` tiles leave, and the other kernel's buffers. -/
def Φ1 (c : Dev nD) (n : ℕ) : sProp 𝕄 :=
  iprop((∃ m s x, ⌜n ≠ 0 → m = (msV V n).1 ∧ s = (msV V n).2 ∧ x = xV V⌝
      ∗ ow c (Memref.whole cc1_scratch0) m ∗ ow c (Memref.whole cc1_scratch1) s ∗ ow c (Memref.whole cc1_scratch2) x) ∗ rest1 c)

variable (B : Set (SemLoc sig × HIx 1))

def dat1 (c : Dev nD) : Dat τ (Elt F) (HIx 1) ℕ UU ℕ cfg1 c where
  A w := V (Proc.devRef .tc (Pipeline.arrRef spec1 w))
  after w t := match w with
    | ⟨0, _⟩ => gV V
    | ⟨1, _⟩ => pV V
    | ⟨2, _⟩ => wV V t
    | ⟨3, _⟩ => bV V t
    | ⟨4, _⟩ => lseV V
    | ⟨5, _⟩ => xV V
  Φ t := Φ1 V c t.val
  q _ := fullShare
  owed _ := 0
  recorded _ := B

theorem before1_0 (c : Dev nD) (t : Fin cfg1.N) (d) : (dat1 V B c).before 0 t d = gV V := by
  by_cases h : (cfg1.win 0).fetch t = true
  · unfold Dat.before; rw [if_pos h]; exact cover1_0 (F := F) t _
  · have h0 : t.val ≠ 0 := fun h0 => h ((fetch1_0 t).mpr (by omega))
    rw [(dat1 V B c).before_of_pos 0 t h0 (by simpa using h), if_neg (by simp [Window.flush])]
    rfl

theorem before1_1 (c : Dev nD) (t : Fin cfg1.N) (d) : (dat1 V B c).before 1 t d = pV V := by
  by_cases h : (cfg1.win 1).fetch t = true
  · unfold Dat.before; rw [if_pos h]; exact cover1_1 (F := F) t _
  · have h0 : t.val ≠ 0 := fun h0 => h ((fetch1_1 t).mpr (by omega))
    rw [(dat1 V B c).before_of_pos 1 t h0 (by simpa using h), if_neg (by simp [Window.flush])]
    rfl

theorem before1_2 (c : Dev nD) (t : Fin cfg1.N) (d) : (dat1 V B c).before 2 t d = wV V t := by
  unfold Dat.before; rw [if_pos (fetch1_2 t)]; rfl

theorem before1_3 (c : Dev nD) (t : Fin cfg1.N) (d) : (dat1 V B c).before 3 t d = bV V t := by
  unfold Dat.before; rw [if_pos (fetch1_3 t)]; rfl

theorem leaves1_idle (c : Dev nD) (w : Fin cfg1.W) (hw : w = 4 ∨ w = 5) (t : Fin cfg1.N) (h : t.val ≠ 97) (d) :
    (owns (c : Thread nD τ) ((cfg1.win w).stage (cfg1.slots t w)) fullShare ((dat1 V B c).before w t d) : sProp 𝕄) ⊢ (dat1 V B c).leavesExact w t := by
  have hN : t.val < 98 := cfg1_N ▸ t.isLt
  have hc : (k1_cond2 (cfg1.grid.coords t) == 1#1) = false := by
    have := mt (cond2_iff t).mp h
    simpa using this
  rw [(dat1 V B c).leavesExact_idle w t
    (by rcases hw with rfl | rfl <;> · show (!(k1_cond2 (cfg1.grid.coords t) == 1#1)) = true
                                       rw [hc]; rfl)
    (by
      rcases hw with rfl | rfl
      · exact Bool.eq_false_iff.mpr fun hf => h (by have := (flush1_4 t).mp hf; omega)
      · exact Bool.eq_false_iff.mpr fun hf => h (by have := (flush1_5 t).mp hf; omega))]
  iintro H; iexists d; iexact H

theorem leaves1_last (c : Dev nD) (w : Fin cfg1.W) (hw : w = 4 ∨ w = 5) (t : Fin cfg1.N) (h : t.val = 97) :
    (owns (c : Thread nD τ) ((cfg1.win w).stage (cfg1.slots t w)) fullShare ((dat1 V B c).after w t) : sProp 𝕄) ⊢ (dat1 V B c).leavesExact w t := by
  have hi : cfg1.idle w (cfg1.grid.coords t) = false := by
    have := (cond2_iff t).mpr h
    rcases hw with rfl | rfl <;> · show (!(k1_cond2 (cfg1.grid.coords t) == 1#1)) = false
                                   rw [this]; rfl
  unfold Dat.leavesExact
  rw [hi]

theorem body1 (c : Dev nD) (ι : HIx 1) : BodyObligation (dat1 V B c) (defs₀ (F := F)) 𝒱₀ ι Set.univ := fun t => by
  rw [bigSep_W1, bigSep_W1]
  rw [show (dat1 V B c).Φ t.castSucc = Φ1 V c t.val from rfl, show (dat1 V B c).Φ t.succ = Φ1 V c (t.val + 1) from rfl,
    show (dat1 V B c).owesAt ι t.succ = (dat1 V B c).owesAt ι t.castSucc from rfl]
  show (iprop(Φ1 V c t.val ∗ (dat1 V B c).owesAt ι t.castSucc ∗ (∃ d, owns (c : Thread nD τ) ((cfg1.win 0).stage (cfg1.slots t 0)) fullShare ((dat1 V B c).before 0 t d)) ∗ (∃ d, owns (c : Thread nD τ) ((cfg1.win 1).stage (cfg1.slots t 1)) fullShare ((dat1 V B c).before 1 t d)) ∗ (∃ d, owns (c : Thread nD τ) ((cfg1.win 2).stage (cfg1.slots t 2)) fullShare ((dat1 V B c).before 2 t d)) ∗ (∃ d, owns (c : Thread nD τ) ((cfg1.win 3).stage (cfg1.slots t 3)) fullShare ((dat1 V B c).before 3 t d)) ∗ (∃ d, owns (c : Thread nD τ) ((cfg1.win 4).stage (cfg1.slots t 4)) fullShare ((dat1 V B c).before 4 t d)) ∗ (∃ d, owns (c : Thread nD τ) ((cfg1.win 5).stage (cfg1.slots t 5)) fullShare ((dat1 V B c).before 5 t d))) : sProp 𝕄)
    ⊢ wp frame (wpE (defs₀ (F := F)) 𝒱₀ c none) Set.univ (bodyAt1 t) fun _ =>
      iprop(Φ1 V c (t.val + 1) ∗ (dat1 V B c).owesAt ι t.castSucc ∗ owns (c : Thread nD τ) ((cfg1.win 0).stage (cfg1.slots t 0)) fullShare ((dat1 V B c).after 0 t) ∗ owns (c : Thread nD τ) ((cfg1.win 1).stage (cfg1.slots t 1)) fullShare ((dat1 V B c).after 1 t) ∗ owns (c : Thread nD τ) ((cfg1.win 2).stage (cfg1.slots t 2)) fullShare ((dat1 V B c).after 2 t) ∗ owns (c : Thread nD τ) ((cfg1.win 3).stage (cfg1.slots t 3)) fullShare ((dat1 V B c).after 3 t) ∗ (dat1 V B c).leavesExact 4 t ∗ (dat1 V B c).leavesExact 5 t)
  unfold Φ1
  have hN : t.val < 98 := cfg1_N ▸ t.isLt
  iintro ⟨⟨⟨%m, %s, %x, %hms, Hm, Hs, Hx⟩, Hr⟩, Howes, ⟨%d0, H0⟩, ⟨%d1, H1⟩, ⟨%d2, H2⟩, ⟨%d3, H3⟩, ⟨%d4, H4⟩, ⟨%d5, H5⟩⟩
  rw [before1_0, before1_1, before1_2, before1_3]
  iapply (lseRun (F := F) c (cfg1.grid.coords t) _ _ _ _ _ _ _ _ _ _ _ _ _ _ _ _ _ _ (gV V) (pV V) (wV V t) (bV V t)
    ((dat1 V B c).before 4 t d4) ((dat1 V B c).before 5 t d5) m s x (msV V t.val).1 (msV V t.val).2 (xV V)
    (fun h => by rw [(isFirst_iff t).mp h]; exact ⟨rfl, rfl, rfl⟩)
    (fun h => by obtain ⟨h1, h2, h3⟩ := hms (mt (isFirst_iff t).mpr h); exact ⟨h1.symm, h2.symm, h3.symm⟩)
    (if t.val = 97 then lseV V else (dat1 V B c).before 4 t d4) (if t.val = 97 then xV V else (dat1 V B c).before 5 t d5)
    (fun h => by
      have h97 := (cond2_iff t).mp h
      rw [if_pos h97, if_pos h97]
      refine ⟨?_, rfl⟩
      have := msV_succ V t
      rw [h97] at this
      show lseV V = _
      unfold lseV
      rw [this, h97])
    (fun h => by
      have h97 := mt (cond2_iff t).mpr h
      rw [if_neg h97, if_neg h97]; exact ⟨rfl, rfl⟩)
    Set.univ _)
  isplitl [H0]; · iexact H0
  isplitl [H1]; · iexact H1
  isplitl [H2]; · iexact H2
  isplitl [H3]; · iexact H3
  isplitl [H4]; · iexact H4
  isplitl [H5]; · iexact H5
  isplitl [Hm]; · iexact Hm
  isplitl [Hs]; · iexact Hs
  isplitl [Hx]; · iexact Hx
  iintro ⟨H0, H1, H2, H3, H4, H5, Hm, Hs, Hx⟩
  isplitl [Hm Hs Hx Hr]
  · isplitr [Hr]
    · iexists _; iexists _; iexists _
      isplitr; swap
      · isplitl [Hm]; · iexact Hm
        isplitl [Hs]; · iexact Hs
        iexact Hx
      ipureintro
      intro _
      rw [msV_succ]; exact ⟨rfl, rfl, rfl⟩
    · iexact Hr
  isplitl [Howes]; · iexact Howes
  isplitl [H0]; · iexact H0
  isplitl [H1]; · iexact H1
  isplitl [H2]; · iexact H2
  isplitl [H3]; · iexact H3
  by_cases h97 : t.val = 97
  · rw [if_pos h97, if_pos h97]
    isplitl [H4]
    · iapply (leaves1_last V B c 4 (Or.inl rfl) t h97); iexact H4
    · iapply (leaves1_last V B c 5 (Or.inr rfl) t h97); iexact H5
  · rw [if_neg h97, if_neg h97]
    isplitl [H4]
    · iapply (leaves1_idle V B c 4 (Or.inl rfl) t h97 d4); iexact H4
    · iapply (leaves1_idle V B c 5 (Or.inr rfl) t h97 d5); iexact H5

/-! ## The second kernel's proof data -/

def w2V (t : Fin cfg2.N) : Vec F S64x1024 .bf16 := ((cfg2.win 1).blk t).view.read (Elt F) (V (Proc.devRef .tc main_v9))
def b2V (t : Fin cfg2.N) : Vec F S1x1024 .f32 := ((cfg2.win 2).blk t).view.read (Elt F) (V (Proc.devRef .tc main_v11))
abbrev x2V : Vec F S1024x64 .f32 := V (Proc.devRef .tc main_v12_1)
abbrev l2V : Vec F S1024x1 .f32 := V (Proc.devRef .tc main_v12_0)

def dat2 (c : Dev nD) : Dat τ (Elt F) (HIx 1) ℕ UU ℕ cfg2 c where
  A w := V (Proc.devRef .tc (Pipeline.arrRef spec2 w))
  after w t := match w with
    | ⟨0, _⟩ => x2V V
    | ⟨1, _⟩ => w2V V t
    | ⟨2, _⟩ => b2V V t
    | ⟨3, _⟩ => l2V V
    | ⟨4, _⟩ => k2_pay1 (x2V V) (w2V V t) (b2V V t) (l2V V)
  Φ _ := Pipeline.scopedRest (Ix := HIx 1) (Name := ℕ) (U := UU) (Lvl := ℕ) (Val := Elt F) spec2 c
  q _ := fullShare
  owed _ := 0
  recorded _ := B

theorem before2_0 (c : Dev nD) (t : Fin cfg2.N) (d) : (dat2 V B c).before 0 t d = x2V V := by
  by_cases h : (cfg2.win 0).fetch t = true
  · unfold Dat.before; rw [if_pos h]; exact cover2_0 (F := F) t _
  · have h0 : t.val ≠ 0 := fun h0 => h ((fetch2_0 t).mpr (by omega))
    rw [(dat2 V B c).before_of_pos 0 t h0 (by simpa using h), if_neg (by simp [Window.flush])]
    rfl

theorem before2_3 (c : Dev nD) (t : Fin cfg2.N) (d) : (dat2 V B c).before 3 t d = l2V V := by
  by_cases h : (cfg2.win 3).fetch t = true
  · unfold Dat.before; rw [if_pos h]; exact cover2_3 (F := F) t _
  · have h0 : t.val ≠ 0 := fun h0 => h ((fetch2_3 t).mpr (by omega))
    rw [(dat2 V B c).before_of_pos 3 t h0 (by simpa using h), if_neg (by simp [Window.flush])]
    rfl

theorem before2_1 (c : Dev nD) (t : Fin cfg2.N) (d) : (dat2 V B c).before 1 t d = w2V V t := by
  unfold Dat.before; rw [if_pos (fetch2_1 t)]; rfl

theorem before2_2 (c : Dev nD) (t : Fin cfg2.N) (d) : (dat2 V B c).before 2 t d = b2V V t := by
  unfold Dat.before; rw [if_pos (fetch2_2 t)]; rfl

theorem body2 (c : Dev nD) (ι : HIx 1) : BodyObligation (dat2 V B c) (defs₀ (F := F)) 𝒱₀ ι Set.univ := fun t => by
  rw [bigSep_W2, bigSep_W2]
  rw [show (dat2 V B c).Φ t.succ = (dat2 V B c).Φ t.castSucc from rfl,
    show (dat2 V B c).owesAt ι t.succ = (dat2 V B c).owesAt ι t.castSucc from rfl]
  show (iprop((dat2 V B c).Φ t.castSucc ∗ (dat2 V B c).owesAt ι t.castSucc ∗ (∃ d, owns (c : Thread nD τ) ((cfg2.win 0).stage (cfg2.slots t 0)) fullShare ((dat2 V B c).before 0 t d)) ∗ (∃ d, owns (c : Thread nD τ) ((cfg2.win 1).stage (cfg2.slots t 1)) fullShare ((dat2 V B c).before 1 t d)) ∗ (∃ d, owns (c : Thread nD τ) ((cfg2.win 2).stage (cfg2.slots t 2)) fullShare ((dat2 V B c).before 2 t d)) ∗ (∃ d, owns (c : Thread nD τ) ((cfg2.win 3).stage (cfg2.slots t 3)) fullShare ((dat2 V B c).before 3 t d)) ∗ (∃ d, owns (c : Thread nD τ) ((cfg2.win 4).stage (cfg2.slots t 4)) fullShare ((dat2 V B c).before 4 t d))) : sProp 𝕄)
    ⊢ wp frame (wpE (defs₀ (F := F)) 𝒱₀ c none) Set.univ (bodyAt2 t) fun _ =>
      iprop((dat2 V B c).Φ t.castSucc ∗ (dat2 V B c).owesAt ι t.castSucc ∗ owns (c : Thread nD τ) ((cfg2.win 0).stage (cfg2.slots t 0)) fullShare ((dat2 V B c).after 0 t) ∗ owns (c : Thread nD τ) ((cfg2.win 1).stage (cfg2.slots t 1)) fullShare ((dat2 V B c).after 1 t) ∗ owns (c : Thread nD τ) ((cfg2.win 2).stage (cfg2.slots t 2)) fullShare ((dat2 V B c).after 2 t) ∗ owns (c : Thread nD τ) ((cfg2.win 3).stage (cfg2.slots t 3)) fullShare ((dat2 V B c).after 3 t) ∗ owns (c : Thread nD τ) ((cfg2.win 4).stage (cfg2.slots t 4)) fullShare ((dat2 V B c).after 4 t))
  iintro ⟨HΦ, Howes, ⟨%d0, H0⟩, ⟨%d1, H1⟩, ⟨%d2, H2⟩, ⟨%d3, H3⟩, ⟨%d4, H4⟩⟩
  rw [before2_0, before2_1, before2_2, before2_3]
  iapply (outRun (F := F) c (cfg2.grid.coords t) _ _ _ _ _ _ _ _ _ _ (x2V V) (w2V V t) (b2V V t) (l2V V) ((dat2 V B c).before 4 t d4) Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

end Cert.K
end
-- ==== Proof.TcRegions.lean ====
module

public import proofs.«01_k».proof.Proof.TcDats

@[expose] public section

noncomputable section

namespace Cert.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg afterRegion arrRefs)
open Idealize.ShloMosaic.SparseCore.Cfg (HIx)

variable {F : FTy → Type} [FloatOps F]

local notation "𝕄" => MT nD τ sig (HIx 1) (Elt F) ℕ UU ℕ

/-- The TensorCore's unscoped references: what the thread holds at a valuation between the segments. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- The pipelines have no prefetched table. -/
abbrev adm : (p : Fin 2) → (pcfgs (F := F) p).Adm := fun q => (cfgs q).toPCfg_adm

/-- The two pipelines' proof data, each at its own entry contents. -/
def pdats (V₁ V₂ : Dev nD → Valuation τ sig (Elt F)) (B : Dev nD → Set (SemLoc sig × HIx 1)) :
    (p : Fin 2) → (c : Dev nD) → Dat τ (Elt F) (HIx 1) ℕ UU ℕ (Pipeline.pin (pcfgs (F := F)) adm p) c
  | ⟨0, _⟩ => fun c => dat1 (V₁ c) (B c) c
  | ⟨1, _⟩ => fun c => dat2 (V₂ c) (B c) c

/-- What the thread owes between the segments: nothing, and every wait it has recorded lies in `B`. -/
def owesIn (B : Dev nD → Set (SemLoc sig × HIx 1)) (c : Dev nD) : sProp 𝕄 :=
  iprop(∃ W, ⌜∀ p ∈ W, p ∈ B c⌝ ∗ owes (c : Thread nD τ) (0 : CellTallies nD τ sig (HIx 1)) W)

section Reg

variable (pd : (p : Fin 2) → (c : Dev nD) → Dat τ (Elt F) (HIx 1) ℕ UU ℕ (Pipeline.pin (pcfgs (F := F)) adm p) c)
  (L : GSem nD τ sig → Finset (HIx 1)) (lv : GSem nD τ sig → HIx 1 → ℕ) (p : Fin 2)
  (B : Dev nD → Set (SemLoc sig × HIx 1)) (hB : ∀ c s, (s, none) ∈ B c)

/-- A region entered from the unscoped buffers held at `W c` and left with them as the proof data leave them. -/
def reg (kit : Pipeline.PLaunchFacts (nD := nD) (τ := τ) (pcfgs (F := F)) p) (hK : (pcfgs (F := F) p).pre.K = 0)
    (hbody : ∀ c, BodyObligationLoose (pd p c) (defs₀ (F := F)) 𝒱₀ none Set.univ)
    (howed : ∀ c t, (pd p c).owed t = 0) (hrec : ∀ c t, (pd p c).recorded t = B c)
    (hshare : ∀ c w, (pd p c).share w = fullShare)
    (hin : ∀ c, Pipeline.scopedRest (Pipeline.pin (pcfgs (F := F)) adm p).spec c ⊢ (pd p c).Φ 0)
    (hout : ∀ c, (pd p c).Φ (Fin.last (Pipeline.pin (pcfgs (F := F)) adm p).N) ⊢ Pipeline.scopedRest (Pipeline.pin (pcfgs (F := F)) adm p).spec c)
    (hS : arrRefs (pcfgs (F := F) p).spec ⊆ ucRefs)
    (W : Dev nD → Valuation τ sig (Elt F))
    (hW : ∀ c w, (pd p c).arrAt w 0 = W c (Proc.devRef .tc (Pipeline.arrRef (Pipeline.pin (pcfgs (F := F)) adm p).spec w))) :
    RegionSeg (pcfgs (F := F)) adm pd none defs₀ 𝒱₀ L lv p where
  win := kit.to₀.win
  block_pos := kit.to₀.block_pos
  stage_whole := kit.to₀.stage_whole
  K := PEmpty
  osem k := k.elim
  ho := Pipeline.OwnSemFacts.none _
  hbody := hbody
  hwaits := Pipeline.hwaits_of_owed_zero _ _ _ _ L lv p howed
  pre c := iprop(StableHlo.held (c.tc : Thread nD τ) ucRefs (W c) ∗ owesIn B c)
  post c := iprop(StableHlo.held (c.tc : Thread nD τ) ucRefs (afterRegion (pd p c) (W c)) ∗ owesIn B c)
  X _ := BI.emp
  Y _ := BI.emp
  Z c := StableHlo.held (c.tc : Thread nD τ) (ucRefs \ arrRefs (pcfgs (F := F) p).spec) (W c)
  hentry c := by
    rw [Pipeline.ownSems0_none, Pipeline.prefHeld_of_none _ hK, StableHlo.held_sub_split (c.tc : Thread nD τ) hS (W c),
      Pipeline.arrays_held (pcfgs (F := F)) adm pd p kit c (hshare c) ((pd p c).arrAt · 0) (W c) (hW c)]
    unfold owesIn
    iintro ⟨⟨⟨Ha, Hu⟩, %Wd, %hWd, HO⟩, -, -⟩
    imodintro
    isplitl [Ha]; · iexact Ha
    isplitr; · iempintro
    isplitl [HO]
    · unfold Pipeline.Dat.owesAt Pipeline.owesWithin Dat.bound
      rw [howed c 0, hrec c]
      iexists Wd; isplitr; · ipureintro; exact fun q hq => Or.inl (hWd q hq)
      iexact HO
    isplitr; · iempintro
    iexact Hu
  hin c := by
    refine BIBase.Entails.trans ?_ (hin c)
    iintro ⟨-, -, Hr⟩; iexact Hr
  hout c := (hout c).trans (by
    rw [Pipeline.ownSems0_none]
    iintro Hr
    isplitr; · iempintro
    isplitr; · iempintro
    iexact Hr)
  hexit c := by
    rw [StableHlo.held_sub_split (c.tc : Thread nD τ) hS (afterRegion (pd p c) (W c)),
      StableHlo.held_congr (c.tc : Thread nD τ) (S := ucRefs \ arrRefs (pcfgs (F := F) p).spec) (V := afterRegion (pd p c) (W c)) (V' := W c)
        (Pipeline.afterRegion_off (pd p c) (W c) ucRefs),
      Pipeline.arrays_held (pcfgs (F := F)) adm pd p kit c (hshare c) ((pd p c).arrAt · (Pipeline.pin (pcfgs (F := F)) adm p).N)
        (afterRegion (pd p c) (W c)) (fun w => (Pipeline.afterRegion_arr (pd p c) (W c) kit.win.arr_inj w).symm)]
    unfold owesIn
    iintro ⟨Ha, HO, -, Hu⟩
    imodintro
    isplitl [Ha Hu]
    · isplitl [Ha]; · iexact Ha
      iexact Hu
    unfold Pipeline.Dat.owesAt Pipeline.owesWithin Dat.bound
    rw [howed c (Fin.last _), hrec c]
    icases HO with ⟨%Wd, %hWd, HO⟩
    iexists Wd
    isplitr
    · ipureintro
      intro q hq
      rcases hWd hq with h | h
      · exact h
      · obtain ⟨w, s, rfl⟩ := h
        exact hB c _
    iexact HO

end Reg

section Regs

variable (V₁ V₂ : Dev nD → Valuation τ sig (Elt F)) (B : Dev nD → Set (SemLoc sig × HIx 1)) (hB : ∀ c s, (s, none) ∈ B c)
  (L : GSem nD τ sig → Finset (HIx 1)) (lv : GSem nD τ sig → HIx 1 → ℕ)

theorem sub1 : arrRefs spec1 ⊆ ucRefs := by decide

theorem sub2 : arrRefs spec2 ⊆ ucRefs := by decide

omit [FloatOps F] in
/-- A whole buffer, as a memref. -/
theorem ow_whole (c : Dev nD) (b : Ref sig .tc) (f : Buf (Elt F) ((c : Thread nD τ).loc b)) :
    (((c : Thread nD τ).loc b) ↦{fullShare} f : sProp 𝕄) = ow (F := F) c (Memref.whole b) f :=
  (owns_whole (c : Thread nD τ) b fullShare f).symm

theorem in1 (c : Dev nD) (V : Valuation τ sig (Elt F)) : (Pipeline.scopedRest spec1 c : sProp 𝕄) ⊢ Φ1 V c 0 := by
  refine (BIBase.Entails.of_eq (scopedRest1_eq c)).trans ?_
  show (iprop(_ ∗ _ ∗ _ ∗ rest1 c) : sProp 𝕄) ⊢ _
  unfold Φ1
  iintro ⟨⟨%a, Ha⟩, ⟨%b, Hb⟩, ⟨%d, Hd⟩, Hr⟩
  isplitr [Hr]
  · iexists a; iexists b; iexists d
    isplitr; · ipureintro; exact fun h => absurd rfl h
    isplitl [Ha]; · rw [← ow_whole]; iexact Ha
    isplitl [Hb]; · rw [← ow_whole]; iexact Hb
    rw [← ow_whole]; iexact Hd
  iexact Hr

theorem out1 (c : Dev nD) (V : Valuation τ sig (Elt F)) (n : ℕ) : Φ1 V c n ⊢ (Pipeline.scopedRest spec1 c : sProp 𝕄) := by
  refine BIBase.Entails.trans ?_ (BIBase.Entails.of_eq (scopedRest1_eq c).symm)
  show _ ⊢ (iprop(_ ∗ _ ∗ _ ∗ rest1 c) : sProp 𝕄)
  unfold Φ1
  iintro ⟨⟨%m, %s, %x, -, Ha, Hb, Hd⟩, Hr⟩
  isplitl [Ha]; · iexists m; rw [ow_whole]; iexact Ha
  isplitl [Hb]; · iexists s; rw [ow_whole]; iexact Hb
  isplitl [Hd]; · iexists x; rw [ow_whole]; iexact Hd
  iexact Hr

theorem in2 (c : Dev nD) (V : Valuation τ sig (Elt F)) (B : Set (SemLoc sig × HIx 1)) :
    (Pipeline.scopedRest spec2 c : sProp 𝕄) ⊢ (dat2 V B c).Φ 0 := .rfl
theorem out2 (c : Dev nD) (V : Valuation τ sig (Elt F)) (B : Set (SemLoc sig × HIx 1)) :
    (dat2 V B c).Φ (Fin.last cfg2.N) ⊢ (Pipeline.scopedRest spec2 c : sProp 𝕄) := .rfl

/-- The first kernel's region. -/
def reg1 : RegionSeg (pcfgs (F := F)) adm (pdats V₁ V₂ B) none defs₀ 𝒱₀ L lv 0 :=
  reg (pdats V₁ V₂ B) L lv 0 B hB launch1.toP rfl (fun c => (body1 (V₁ c) (B c) c none).loose)
    (fun _ _ => rfl) (fun _ _ => rfl) (fun c => (pdats V₁ V₂ B 0 c).share_full fun _ => rfl)
    (fun c => in1 c (V₁ c)) (fun c => out1 c (V₁ c) _) sub1 V₁ (fun _ _ => rfl)

/-- The second kernel's region. -/
def reg2 : RegionSeg (pcfgs (F := F)) adm (pdats V₁ V₂ B) none defs₀ 𝒱₀ L lv 1 :=
  reg (pdats V₁ V₂ B) L lv 1 B hB launch2.toP rfl (fun c => (body2 (V₂ c) (B c) c none).loose)
    (fun _ _ => rfl) (fun _ _ => rfl) (fun c => (pdats V₁ V₂ B 1 c).share_full fun _ => rfl)
    (fun c => in2 c (V₂ c) (B c)) (fun c => out2 c (V₂ c) (B c)) sub2 V₂ (fun _ _ => rfl)

end Regs

end Cert.K
end
-- ==== Proof.Host.lean ====
/-
  The program's host operations in two lines, before the gather and after it.
-/
module

public import proofs.«01_k».proof.Proof.Tile
public import proofs.«01_k».proof.Proof.TcRegions
public import Idealize.ShloMosaic.Lib.StableHlo.Run

@[expose] public section

noncomputable section

namespace Cert.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.SparseCore (V)

variable {F : FTy → Type} [FloatOps F]

local notation "𝕄" => MT nD τ sig (HIx 1) (Elt F) ℕ UU ℕ
local notation "tabM" => (Memref.whole Cert.KernelIdeal.main_v1_scv : Memref Cert.KernelIdeal.sig Kind.scVector Space.hbm Cert.KernelIdeal.S50000x128 EltTy.f32)
local notation "idxM" => (Memref.whole Cert.KernelIdeal.main_v3_scv : Memref Cert.KernelIdeal.sig Kind.scVector Space.hbm Cert.KernelIdeal.S1x20480 EltTy.i32)
local notation "outM" => (Memref.whole Cert.KernelIdeal.main_v4_scv : Memref Cert.KernelIdeal.sig Kind.scVector Space.hbm Cert.KernelIdeal.S20480x128 EltTy.f32)
local notation "sIM" => (Memref.whole Cert.KernelIdeal.cc0_scoped0 : Memref Cert.KernelIdeal.sig Kind.scVector Space.vmem Cert.KernelIdeal.S2x1x128 EltTy.i32)
local notation "sRM" => (Memref.whole Cert.KernelIdeal.cc0_scoped2 : Memref Cert.KernelIdeal.sig Kind.scVector Space.vmem Cert.KernelIdeal.S2x128x128 EltTy.f32)

/-- The host operations before the gather. -/
def opsA : List (HloOp τ sig (Elt F)) := [
  StableHlo.reshape main_arg0 main_v0 (rfl : (.i32 : EltTy) = .i32) shapeCasts_S20x1024_S20480,
  StableHlo.reshape main_arg1 main_v1 (rfl : (.f32 : EltTy) = .f32) shapeCasts_S100000x64_S50000x128,
  StableHlo.nullary main_c (constantI S_ 32 2#32),
  StableHlo.TRef.unary (.of main_c : StableHlo.TRef sig ⟨S_, .i32⟩) main_call0.v0 id,
  StableHlo.TRef.unary main_call0.v0 main_call0.v1 (broadcastInDim S20480 ![] bcast_S_S20480),
  StableHlo.TRef.binary (.of main_v0 : StableHlo.TRef sig ⟨S20480, .i32⟩) main_call0.v1 main_call0.v2 Host.divsi,
  StableHlo.TRef.unary (.of main_v0 : StableHlo.TRef sig ⟨S20480, .i32⟩) main_call0.v3 signi,
  StableHlo.TRef.unary main_call0.v0 main_call0.v4 signi,
  StableHlo.TRef.unary main_call0.v4 main_call0.v5 (broadcastInDim S20480 ![] bcast_S_S20480),
  StableHlo.TRef.binary main_call0.v3 main_call0.v5 main_call0.v6 (cmpi .ne),
  StableHlo.TRef.unary main_call0.v0 main_call0.v7 (broadcastInDim S20480 ![] bcast_S_S20480),
  StableHlo.TRef.binary (.of main_v0 : StableHlo.TRef sig ⟨S20480, .i32⟩) main_call0.v7 main_call0.v8 Host.remsi,
  StableHlo.TRef.nullary main_call0.c (constantI S_ 32 0#32),
  StableHlo.TRef.unary main_call0.c main_call0.v9 (broadcastInDim S20480 ![] bcast_S_S20480),
  StableHlo.TRef.binary main_call0.v8 main_call0.v9 main_call0.v10 (cmpi .ne),
  StableHlo.TRef.binary main_call0.v6 main_call0.v10 main_call0.v11 andi,
  StableHlo.TRef.nullary main_call0.c_0 (constantI S_ 32 1#32),
  StableHlo.TRef.unary main_call0.c_0 main_call0.v12 (broadcastInDim S20480 ![] bcast_S_S20480),
  StableHlo.TRef.binary main_call0.v2 main_call0.v12 main_call0.v13 subi,
  StableHlo.TRef.ternary main_call0.v11 main_call0.v13 main_call0.v2 main_call0.call0.v0 select,
  StableHlo.reshape main_v2 main_v3 (rfl : (.i32 : EltTy) = .i32) shapeCasts_S20480_S1x20480]

/-- The host operations after it. -/
def opsB : List (HloOp τ sig (Elt F)) := [
  StableHlo.nullary main_c_0 (constantI S_ 32 2#32),
  StableHlo.TRef.unary (.of main_c_0 : StableHlo.TRef sig ⟨S_, .i32⟩) main_call1.v0 id,
  StableHlo.TRef.nullary main_call1.c (constantI S_ 32 0#32),
  StableHlo.TRef.binary main_call1.v0 main_call1.c main_call1.v1 (cmpi .eq),
  StableHlo.TRef.nullary main_call1.c_0 (constantI S_ 32 1#32),
  StableHlo.TRef.ternary main_call1.v1 main_call1.c_0 main_call1.v0 main_call1.call0.v0 select,
  StableHlo.TRef.unary main_call1.call0.v0 main_call1.v3 (broadcastInDim S20480 ![] bcast_S_S20480),
  StableHlo.TRef.binary (.of main_v0 : StableHlo.TRef sig ⟨S20480, .i32⟩) main_call1.v3 main_call1.v4 Host.remsi,
  StableHlo.TRef.nullary main_call1.c_1 (constantI S_ 32 0#32),
  StableHlo.TRef.unary main_call1.c_1 main_call1.v5 (broadcastInDim S20480 ![] bcast_S_S20480),
  StableHlo.TRef.binary main_call1.v4 main_call1.v5 main_call1.v6 (cmpi .ne),
  StableHlo.TRef.nullary main_call1.c_2 (constantI S_ 32 0#32),
  StableHlo.TRef.unary main_call1.c_2 main_call1.v7 (broadcastInDim S20480 ![] bcast_S_S20480),
  StableHlo.TRef.binary main_call1.v4 main_call1.v7 main_call1.v8 (cmpi .slt),
  StableHlo.TRef.nullary main_call1.c_3 (constantI S_ 32 0#32),
  StableHlo.TRef.binary main_call1.call0.v0 main_call1.c_3 main_call1.v9 (cmpi .slt),
  StableHlo.TRef.unary main_call1.v9 main_call1.v10 (broadcastInDim S20480 ![] bcast_S_S20480),
  StableHlo.TRef.binary main_call1.v8 main_call1.v10 main_call1.v11 (cmpi .ne),
  StableHlo.TRef.binary main_call1.v11 main_call1.v6 main_call1.v12 andi,
  StableHlo.TRef.unary main_call1.call0.v0 main_call1.v13 (broadcastInDim S20480 ![] bcast_S_S20480),
  StableHlo.TRef.binary main_call1.v4 main_call1.v13 main_call1.v14 addi,
  StableHlo.TRef.ternary main_call1.v12 main_call1.v14 main_call1.v4 main_call1.v15 select,
  StableHlo.reshape main_v5 main_v6 (rfl : (.i32 : EltTy) = .i32) shapeCasts_S20480_S20480x1,
  StableHlo.unary main_arg2 main_v7 ((transpose S64x100000 [1, 0] · transposes_S100000x64_S64x100000_1_0) : (⟨S100000x64, .f32⟩ : BufTy).Contents (Elt F) → (⟨S64x100000, .f32⟩ : BufTy).Contents (Elt F)),
  StableHlo.unary main_v7 main_v8 ((truncf .bf16 · bitsLt_bf16_f32) : (⟨S64x100000, .f32⟩ : BufTy).Contents (Elt F) → (⟨S64x100000, .bf16⟩ : BufTy).Contents (Elt F)),
  StableHlo.nullary main_c_1 (constantI S_ 32 0#32),
  StableHlo.TRef.unary (.of main_c_1 : StableHlo.TRef sig ⟨S_, .i32⟩) main_call2.v0 (sitofp .bf16),
  StableHlo.TRef.binary (.of main_v8 : StableHlo.TRef sig ⟨S64x100000, .bf16⟩) main_call2.v0 main_call2.v1 (fun x v => pad S64x100352 ![0, 0] ![0, 352] ![0, 0] x v pads_S64x100000_S64x100352_000_03520 h_S_),
  StableHlo.nullary main_cst (constant S_ .f32 0xFF800000#32),
  StableHlo.TRef.unary (.of main_cst : StableHlo.TRef sig ⟨S_, .f32⟩) main_call3.v0 id,
  StableHlo.TRef.binary (.of main_arg3 : StableHlo.TRef sig ⟨S100000, .f32⟩) main_call3.v0 main_call3.v1 (fun x v => pad S100352 ![0] ![352] ![0] x v pads_S100000_S100352_03520 h_S_),
  StableHlo.reshape main_v10 main_v11 (rfl : (.f32 : EltTy) = .f32) shapeCasts_S100352_S1x100352]

set_option maxRecDepth 16384 in
set_option maxHeartbeats 4000000 in
theorem main_eq (d : Dev nD) : (main d : Prog (TpuEff nD τ sig (Elt F) (SparseCore.Sig (ΛP (F := F)) 1) .tc) PUnit) = (do
    StableHlo.seq opsA
    (K (F := F)).run d 0
    StableHlo.seq opsB
    Prog.lift (.customCall (SparseCore.inner (Pipeline.entry 0)) ())
    Prog.lift (.customCall (SparseCore.inner (Pipeline.entry 1)) ())
    pure ⟨⟩) := rfl

/-- An operation on TensorCore buffers touches unscoped ones only. -/
theorem sub_uc (op : HloOp τ sig (Elt F)) (h : op.bufs ⊆ StableHlo.tcRefs τ sig) : op.bufs ⊆ ucRefs := fun b hb =>
  Finset.mem_filter.mpr ⟨h hb, by rw [op.no_scoped b hb]; exact Bool.false_ne_true⟩

theorem opsA_tc : (opsA : List (HloOp τ sig (Elt F))).Forall fun op => op.bufs ⊆ StableHlo.tcRefs τ sig :=
  ⟨StableHlo.reshape_bufs_sub .., StableHlo.reshape_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.reshape_bufs_sub ..⟩

theorem opsA_sub : ∀ op ∈ (opsA : List (HloOp τ sig (Elt F))), op.bufs ⊆ ucRefs :=
  fun op h => sub_uc op (List.forall_iff_forall_mem.mp opsA_tc op h)

theorem opsA_fresh : ∀ op ∈ (opsA : List (HloOp τ sig (Elt F))), op.fresh = ∅ :=
  List.forall_iff_forall_mem.mp (StableHlo.forall_fresh_of_map rfl)

theorem opsB_tc : (opsB : List (HloOp τ sig (Elt F))).Forall fun op => op.bufs ⊆ StableHlo.tcRefs τ sig :=
  ⟨StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.reshape_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.reshape_bufs_sub ..⟩

theorem opsB_sub : ∀ op ∈ (opsB : List (HloOp τ sig (Elt F))), op.bufs ⊆ ucRefs :=
  fun op h => sub_uc op (List.forall_iff_forall_mem.mp opsB_tc op h)

theorem opsB_fresh : ∀ op ∈ (opsB : List (HloOp τ sig (Elt F))), op.fresh = ∅ :=
  List.forall_iff_forall_mem.mp (StableHlo.forall_fresh_of_map rfl)

end Cert.K

end
-- ==== Proof.Launch.lean ====
/-
  The program's run: the host operations, the gather's call, the host operations, the two kernels.
-/
module

public import proofs.«01_k».proof.Proof.Deal
public import proofs.«01_k».proof.Proof.Host

@[expose] public section

noncomputable section

namespace Cert.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds
open Idealize.ShloMosaic.SparseCore (V)
open Idealize.ShloMosaic.Pipeline (RegionSeg afterRegion arrRefs cellsGhost toksInit)
open Idealize.ShloMosaic.StableHlo (after held launchContents)

variable {F : FTy → Type} [FloatOps F]

local notation "𝕄" => MT nD τ sig (HIx 1) (Elt F) ℕ UU ℕ
local notation "tabM" => (Memref.whole Cert.KernelIdeal.main_v1_scv : Memref Cert.KernelIdeal.sig Kind.scVector Space.hbm Cert.KernelIdeal.S50000x128 EltTy.f32)
local notation "idxM" => (Memref.whole Cert.KernelIdeal.main_v3_scv : Memref Cert.KernelIdeal.sig Kind.scVector Space.hbm Cert.KernelIdeal.S1x20480 EltTy.i32)
local notation "outM" => (Memref.whole Cert.KernelIdeal.main_v4_scv : Memref Cert.KernelIdeal.sig Kind.scVector Space.hbm Cert.KernelIdeal.S20480x128 EltTy.f32)
local notation "sIM" => (Memref.whole Cert.KernelIdeal.cc0_scoped0 : Memref Cert.KernelIdeal.sig Kind.scVector Space.vmem Cert.KernelIdeal.S2x1x128 EltTy.i32)
local notation "sRM" => (Memref.whole Cert.KernelIdeal.cc0_scoped2 : Memref Cert.KernelIdeal.sig Kind.scVector Space.vmem Cert.KernelIdeal.S2x128x128 EltTy.f32)

open Idealize.ShloMosaic.SparseCore.Cfg (Pay ownBufs ownSems0 ownCells ownRefs mem_ownCells)

/-! ## The contents from step to step -/

/-- After the host operations before the gather; after the gather; after the host operations following it. -/
def Va (V : Valuation τ sig (Elt F)) : Valuation τ sig (Elt F) := after opsA V
def Vg (V : Valuation τ sig (Elt F)) : Valuation τ sig (Elt F) :=
  Function.update (Va V) (Proc.devRef .tc main_v4) (gatherRows (tabOf (Va V)) (idxOf (Va V)))
def Vb (V : Valuation τ sig (Elt F)) : Valuation τ sig (Elt F) := after opsB (Vg V)

/-- The waits a device's TensorCore may have recorded once the call is over. -/
def Bd (d : Dev nD) : Set (SemLoc sig × HIx 1) := {p | (K (F := F)).lev ((SparseCore.T d : Thread nD τ), p.1) p.2 ≤ 8 * SparseCore.Cfg.Blocks.fst 1 1 1}

theorem Bd_none (d : Dev nD) (s : SemLoc sig) : (s, none) ∈ Bd (F := F) d := Nat.zero_le _

/-- After the first kernel, and after the second. -/
def Vc (d : Dev nD) (V : Valuation τ sig (Elt F)) : Valuation τ sig (Elt F) := afterRegion (dat1 (Vb V) (Bd (F := F) d) d) (Vb V)
def Vd (d : Dev nD) (V : Valuation τ sig (Elt F)) : Valuation τ sig (Elt F) := afterRegion (dat2 (Vc d V) (Bd (F := F) d) d) (Vc d V)

variable (m : (ℓ : Loc nD τ sig) → Buf (Elt F) ℓ) (ρ : Dev nD → PrngReg)

abbrev Wl (d : Dev nD) : Valuation τ sig (Elt F) := Va (launchContents m d)

/-! ## The ghost state -/

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

abbrev pins : (p : Fin 2) → Pipeline.Cfg sig Λ₀ := Pipeline.pin (pcfgs (F := F)) adm
theorem pins_inj : Function.Injective (Pipeline.cellOf (nD := nD) (τ := τ) (pins (F := F))) := cellOf_inj

def u₀ : UU := (initOf (K (F := F)).hsCells (K (F := F)).hsToks,
  (initOf (Pipeline.cells (nD := nD) (τ := τ) (pins (F := F)) pins_inj) (Pipeline.launchToks (nD := nD) (τ := τ) (pins (F := F)) pins_inj), 1))

/-- What the launch deals device `d` for its two pipelines. -/
def G (d : Dev nD) : sProp 𝕄 :=
  iprop((bigSep Finset.univ fun p : Fin 2 => cellsGhost (pins (F := F)) EP p d) ∗ bigSep Finset.univ fun p : Fin 2 => toksInit (pins (F := F)) EP p d)

theorem bigSep_two (Φ : Fin 2 → sProp 𝕄) : bigSep Finset.univ Φ = iprop(Φ 0 ∗ Φ 1) := bigSep_fin_two Φ

theorem own_EP (a : UP) : (BI.own (((Emb.inl : Emb UP (UP × Counters)).trans embR) a) : sProp 𝕄) ⊢ BI.own (EP a) := .rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun t : Thread nD τ => bigSep Finset.univ fun q : Fin 1 => (P (Wl m)).x q t) := by
  unfold u₀
  iintro Hu
  ihave H := (ownU_pair (initOf (K (F := F)).hsCells (K (F := F)).hsToks) _) $$ Hu
  icases H with ⟨HH, HR⟩
  ihave HR := (own_pair_emb (embR : Emb (UP × Counters) 𝕄) _ (1 : Counters)) $$ HR
  icases HR with ⟨HP, -⟩
  ihave HP := (own_EP _) $$ HP
  imod (Pipeline.fund_ghost (nD := nD) (τ := τ) (pins (F := F)) EP pins_inj) $$ HP with ⟨Hg, Ht⟩
  imodintro
  isplitl [HH]; · iexact HH
  isplitl [Hg Ht]
  · unfold G
    rw [bigSep_sep']
    isplitl [Hg]; · iexact Hg
    iexact Ht
  rw [show (bigSep Finset.univ fun t : Thread nD τ => bigSep Finset.univ fun q : Fin 1 => (P (Wl m)).x q t) = iprop(emp) from
    (bigSep_congr fun _ _ => bigSep_univ_of_subsingleton (0 : Fin 1)).trans (bigSep_emp_const _)]
  iempintro

/-! ## @main on the TensorCore -/

def callRefs : Finset (DevRef τ sig) := {Proc.devRef .tc main_v3, Proc.devRef .tc main_v1, Proc.devRef .tc main_v4}

theorem callRefs_sub : callRefs ⊆ ucRefs := by decide

theorem held_call (d : Dev nD) (W : Valuation τ sig (Elt F)) :
    (held (d.tc : Thread nD τ) ucRefs W : sProp 𝕄)
      = iprop((((SparseCore.T d : Thread nD τ).loc main_v3 ↦{fullShare} idxOf W) ∗ ((SparseCore.T d : Thread nD τ).loc main_v1 ↦{fullShare} tabOf W)
          ∗ ((SparseCore.T d : Thread nD τ).loc main_v4 ↦{fullShare} outOf W)) ∗ held (d.tc : Thread nD τ) (ucRefs \ callRefs) W) := by
  rw [StableHlo.held_sub_split (d.tc : Thread nD τ) callRefs_sub W]
  congr 1
  unfold held callRefs
  rw [SparseCore.bigSep_insert' (by decide), SparseCore.bigSep_insert' (by decide), bigSep_singleton]

theorem idxOf_Vg (V : Valuation τ sig (Elt F)) : idxOf (Vg V) = idxOf (Va V) := Function.update_of_ne (by decide) _ _
theorem tabOf_Vg (V : Valuation τ sig (Elt F)) : tabOf (Vg V) = tabOf (Va V) := Function.update_of_ne (by decide) _ _
theorem outOf_Vg (V : Valuation τ sig (Elt F)) : outOf (Vg V) = gatherRows (tabOf (Va V)) (idxOf (Va V)) := Function.update_self _ _ _
theorem rest_Vg (d : Dev nD) (V : Valuation τ sig (Elt F)) :
    (held (d.tc : Thread nD τ) (ucRefs \ callRefs) (Vg V) : sProp 𝕄) = held (d.tc : Thread nD τ) (ucRefs \ callRefs) (Va V) :=
  StableHlo.held_congr _ fun b hb => Function.update_of_ne (by
    rintro rfl; exact (Finset.mem_sdiff.mp hb).2 (by decide)) _ _

/-- The TensorCore's state after the call holds what it owes: nothing. -/
theorem tcSt_one (d : Dev nD) : ((K (F := F)).tcSt EH d 1 : sProp 𝕄) ⊢ iprop(owesIn (Bd (F := F)) d ∗ (owesIn (Bd (F := F)) d -∗ (K (F := F)).tcSt EH d 1)) := by
  unfold SparseCore.Cfg.tcSt owesIn
  rw [(K (F := F)).Otc_end d (le_refl 1)]
  iintro ⟨⟨%W, %hW, HO⟩, Hr⟩
  isplitl [HO]
  · iexists W; isplitr; · ipureintro; exact hW
    iexact HO
  iintro ⟨%W', %hW', HO⟩
  isplitl [HO]
  · iexists W'; isplitr; · ipureintro; exact hW'
    iexact HO
  iexact Hr

/-- The two kernels' proof data at the run's contents. -/
abbrev V₁ (d : Dev nD) : Valuation τ sig (Elt F) := Vb (launchContents m d)
abbrev V₂ (d : Dev nD) : Valuation τ sig (Elt F) := Vc d (launchContents m d)

section Region

variable [∀ e, Nonempty (Elt F e)]

theorem ret_tc (d : Dev nD) (Q : PUnit → sProp 𝕄) : Q ⟨⟩ ⊢ wp frame (wpE (D (F := F)) 𝒱 (SparseCore.T d) none) Set.univ (Prog.ret ⟨⟩) Q := by
  rw [show wp frame (wpE (D (F := F)) 𝒱 (SparseCore.T d) none) Set.univ (Prog.ret ⟨⟩) Q = iprop(|={Set.univ}=> Q ⟨⟩) from rfl]
  iintro H; imodintro; iexact H

theorem region_step (p : Fin 2) (R : RegionSeg (pcfgs (F := F)) adm (pdats (V₁ m) (V₂ m) (Bd (F := F))) none defs₀ 𝒱₀ (K (F := F)).L (K (F := F)).lev p)
    (d : Dev nD) (Q : PUnit → sProp 𝕄) :
    iprop((iprop(boundary (SparseCore.T d : Thread nD τ) ∗ R.post d) -∗ Q ⟨⟩) ∗ boundary (SparseCore.T d : Thread nD τ) ∗ R.pre d
        ∗ levAts (K (F := F)).L (K (F := F)).lev ∗ cellsGhost (pins (F := F)) EP p d ∗ toksInit (pins (F := F)) EP p d)
      ⊢ wp frame (wpE ((K (F := F)).defs (D (F := F))) 𝒱 (SparseCore.T d) none) Set.univ
          (Prog.lift (.customCall (SparseCore.inner (Pipeline.entry p)) ()) : Prog (TpuEff nD τ sig (Elt F) (SparseCore.Sig (ΛP (F := F)) 1) .tc) PUnit) Q := by
  refine BIBase.Entails.trans ?_ ((K (F := F)).wp_liftProg (D (F := F)) 𝒱 (SparseCore.T d) Set.univ none
    (.op (.customCall (Pipeline.entry p) ()) .ret : Prog (TpuEff nD τ sig (Elt F) (ΛP (F := F)) .tc) PUnit) Q)
  refine BIBase.Entails.trans ?_ (RegionSeg.wp (pcfgs (F := F)) adm (pdats (V₁ m) (V₂ m) (Bd (F := F))) none pins_inj EP defs₀ 𝒱₀
    (K (F := F)).L (K (F := F)).lev R d none (fun _ h => nomatch h) .ret Q)
  iintro ⟨HQ, H⟩
  isplitl [HQ]
  · iintro H
    iapply (ret_tc d Q)
    iapply HQ; iexact H
  iexact H

end Region

set_option maxHeartbeats 4000000 in
theorem st_eq (W : Dev nD → Valuation τ sig (Elt F)) (d : Dev nD) : (bigSep Finset.univ fun c : Fin ((K (F := F)).nCore 0) => (P W).st 0 d c)
    = bigSep Finset.univ fun c : Fin 2 => coreP W d c (outOf (W d)) :=
  bigSep_congr fun _ _ => rfl
set_option maxHeartbeats 4000000 in
theorem dn_eq (W : Dev nD → Valuation τ sig (Elt F)) (d : Dev nD) : (bigSep Finset.univ fun c : Fin ((K (F := F)).nCore 0) => (P W).dn 0 d c)
    = bigSep Finset.univ fun c : Fin 2 => coreP W d c (gatherRows (tabOf (W d)) (idxOf (W d))) :=
  bigSep_congr fun _ _ => rfl

theorem seq_wp (d : Dev nD) (ops : List (HloOp τ sig (Elt F))) (hs : ∀ op ∈ ops, op.bufs ⊆ ucRefs) (hf : ∀ op ∈ ops, op.fresh = ∅)
    (V : Valuation τ sig (Elt F)) (Q : PUnit → sProp 𝕄) :
    iprop(boundary (SparseCore.T d : Thread nD τ) ∗ held (d.tc : Thread nD τ) ucRefs V
        ∗ (iprop(boundary (SparseCore.T d : Thread nD τ) ∗ held (d.tc : Thread nD τ) ucRefs (after ops V)) -∗ Q ⟨⟩))
      ⊢ wp frame (wpE ((K (F := F)).defs (D (F := F))) 𝒱 (SparseCore.T d) none) Set.univ (StableHlo.seq ops) Q := by
  rw [show (StableHlo.seq ops : Prog (TpuEff nD τ sig (Elt F) (SparseCore.Sig (ΛP (F := F)) 1) .tc) PUnit) = StableHlo.seq ops >>= pure from (bind_pure _).symm]
  iintro ⟨Hb, Hh, HQ⟩
  iapply (StableHlo.wp_seq 𝒱 none Set.univ d ucRefs _ ops hs hf V) $$ [Hb Hh]
  · isplitl [Hb]; · iexact Hb
    iexact Hh
  iintro H
  simp only [wp_pure]
  imodintro
  iapply HQ; iexact H

abbrev FIN (d : Dev nD) : sProp 𝕄 := held (d.tc : Thread nD τ) ucRefs (Vd d (launchContents m d))

set_option maxHeartbeats 4000000 in
theorem hmain [∀ e, Nonempty (Elt F e)] (κ : GSem nD τ sig → ℕ) (d : Dev nD) :
    iprop((K (F := F)).ctx EH (P (Wl m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d : Thread nD τ).loc b)) : sProp 𝕄) = held (d.tc : Thread nD τ) ucRefs (launchContents m d) from
    unscopedBufs_held d (launchContents m d), main_eq]
  unfold G
  rw [bigSep_two, bigSep_two]
  iintro ⟨#Hctx, Hst, ⟨Hb, Hh, Hts, -⟩, ⟨Hg0, Hg1⟩, ⟨Ht0, Ht1⟩⟩
  ihave #Hlv := (SparseCore.Cfg.ctx_levAts κ) $$ Hctx
  iapply (StableHlo.wp_seq 𝒱 none Set.univ d ucRefs _ opsA opsA_sub opsA_fresh (launchContents m d)) $$ [Hb Hh]
  · isplitl [Hb]; · iexact Hb
    iexact Hh
  iintro ⟨Hb, Hh⟩
  ihave Hh := (Entails.of_eq (show (held (d.tc : Thread nD τ) ucRefs (after opsA (launchContents m d)) : sProp 𝕄) = _ from held_call d (Wl m d))) $$ Hh
  icases Hh with ⟨Hc, Hr⟩
  simp only [wp_bind]
  iapply ((K (F := F)).wp_run (D (F := F)) 𝒱 (EH := EH) (P := P (Wl m)) κ d 0) $$ [-]
  isplitr; · iexact Hctx
  isplitl [Hst]; · iexact Hst
  isplitl [Hc]
  · iapply (Entails.of_eq ((st_eq (Wl m) d).trans (call_parts (Wl m) d (outOf (Wl m d)))).symm); iexact Hc
  iintro ⟨Hst, Hdn⟩
  ihave Hc := (Entails.of_eq ((dn_eq (Wl m) d).trans (call_parts (Wl m) d (gatherRows (tabOf (Wl m d)) (idxOf (Wl m d)))))) $$ Hdn
  ihave Hh := (Entails.of_eq (show _ = (held (d.tc : Thread nD τ) ucRefs (Vg (launchContents m d)) : sProp 𝕄) by
    rw [held_call, idxOf_Vg, tabOf_Vg, outOf_Vg, rest_Vg])) $$ [Hc Hr]
  · isplitl [Hc]; · iexact Hc
    iexact Hr
  iapply (seq_wp d opsB opsB_sub opsB_fresh (Vg (launchContents m d))) $$ [-]
  isplitl [Hb]; · iexact Hb
  isplitl [Hh]; · iexact Hh
  iintro ⟨Hb, Hh⟩
  ihave Hst := (show (K (F := F)).tcSt EH d ((0 : Fin 1).val + 1) ⊢ _ from tcSt_one d) $$ Hst
  icases Hst with ⟨HO, Hst⟩
  iapply (region_step m 0 (reg1 (V₁ m) (V₂ m) (Bd (F := F)) Bd_none _ _) d _) $$ [-]
  isplitr [Hb Hh HO Hg0 Ht0]
  swap
  · isplitl [Hb]; · iexact Hb
    isplitl [Hh HO]
    · iapply (show iprop(held (d.tc : Thread nD τ) ucRefs (V₁ m d) ∗ owesIn (Bd (F := F)) d) ⊢ (reg1 (V₁ m) (V₂ m) (Bd (F := F)) Bd_none (K (F := F)).L (K (F := F)).lev).pre d from .rfl) $$ [-]
      isplitl [Hh]; · iexact Hh
      iexact HO
    isplitr; · iexact Hlv
    isplitl [Hg0]; · iexact Hg0
    iexact Ht0
  iintro ⟨Hb, Hp⟩
  ihave Hp := (show (reg1 (V₁ m) (V₂ m) (Bd (F := F)) Bd_none (K (F := F)).L (K (F := F)).lev).post d
    ⊢ iprop(held (d.tc : Thread nD τ) ucRefs (V₂ m d) ∗ owesIn (Bd (F := F)) d) from .rfl) $$ Hp
  icases Hp with ⟨Hh, HO⟩
  iapply (region_step m 1 (reg2 (V₁ m) (V₂ m) (Bd (F := F)) Bd_none _ _) d _) $$ [-]
  isplitr [Hb Hh HO Hg1 Ht1]
  swap
  · isplitl [Hb]; · iexact Hb
    isplitl [Hh HO]
    · iapply (show iprop(held (d.tc : Thread nD τ) ucRefs (V₂ m d) ∗ owesIn (Bd (F := F)) d) ⊢ (reg2 (V₁ m) (V₂ m) (Bd (F := F)) Bd_none (K (F := F)).L (K (F := F)).lev).pre d from .rfl) $$ [-]
      isplitl [Hh]; · iexact Hh
      iexact HO
    isplitr; · iexact Hlv
    isplitl [Hg1]; · iexact Hg1
    iexact Ht1
  iintro ⟨Hb, Hp⟩
  ihave Hp := (show (reg2 (V₁ m) (V₂ m) (Bd (F := F)) Bd_none (K (F := F)).L (K (F := F)).lev).post d
    ⊢ iprop(FIN m d ∗ owesIn (Bd (F := F)) d) from .rfl) $$ Hp
  icases Hp with ⟨Hh, HO⟩
  simp only [wp_pure]
  imodintro
  isplitl [Hst HO]
  · iapply Hst; iexact HO
  isplitl [Hh]; · iexact Hh
  isplitl [Hb]; · iexact Hb
  iexact Hts

/-! ## The end -/

def fq (d : Dev nD) (s' : Phys nD τ sig (Elt F)) : Prop := ∀ b ∈ ucRefs, s'.mem.mem (d, b) = Vd d (launchContents m d) b

theorem fin_one (d : Dev nD) (s' : Phys nD τ sig (Elt F)) (b : DevRef τ sig) (hb : b ∈ ucRefs) :
    iprop(FIN m d ∗ SI s') ⊢ (⌜s'.mem.mem (d, b) = Vd d (launchContents m d) b⌝ : sProp 𝕄) := by
  unfold FIN held
  rw [SparseCore.bigSep_erase' hb]
  iintro ⟨⟨Hb, -⟩, HSI⟩
  ihave H := (SI_pointsTo_agree (st := s') (ℓ := (d, b)) (I := Finset.univ) (q := fullShare) (f := Vd d (launchContents m d) b)) $$ [HSI Hb]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) :=
  fun a ha b hb => fin_one m d s' b hb a ha

/-! ## The program's run -/

def QC : PUnit × MemSt nD τ sig (Elt F) → Prop :=
  fun r => (∀ (d : Dev nD), ∀ b ∈ ucRefs, r.2.mem (d, b) = Vd d (launchContents m d) b) ∧ r.2.sem = fun _ => 0

/-- From any memory with zero counters whose word list names rows of the table: every run ends with every tensor at `Vd`. -/
theorem run_main [∀ e, Nonempty (Elt F e)] (hidx : ∀ d j, (idxOf (Wl m d) j).toNat < 50000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Wl m)) (A := ∅) facts v₀
    (fun q hq => match q with | 0 => nomatch hq)
    (fun q _ => match q with | 0 => tileObl (Wl m) hidx)
    (fun q _ => match q with | 0 => SparseCore.Cfg.VecSplit.of_plain (vecSplit (Wl m)))
    m ρ main G (FIN m) (u₀ (F := F)) (sep_elim_left.trans (hu₀ m)) (hmain m ρ) (fq m) (hfin m) (QC m) (fun _ h hz => ⟨h, hz⟩)

end Cert.K

end
-- ==== Proof.HostVals.lean ====
/-
  What the host operations leave in the buffers that the kernels and the claims read.
-/
module

public import proofs.«01_k».proof.Proof.Host

@[expose] public section

noncomputable section

namespace Cert.K

open Cert.KernelIdeal Cert.KernelIdeal.Gen

open Idealize.ShloMosaic
open Idealize.ShloMosaic.TcCoe Idealize.ShloMosaic.Tactic
open Idealize.ShloMosaic.StableHlo (after TRef.binary TRef.nullary TRef.ternary TRef.unary TRef.toBuf TRef.ofBuf)

variable {F : FTy → Type} [FloatOps F]

/-- A scalar word on every entry. -/
abbrev splat (w : BitVec 32) : IVec S20480 32 := broadcastInDim S20480 ![] bcast_S_S20480 (constantI S_ 32 w)

/-- The words' halves, rounded down, as the host takes them. -/
def halves (x : IVec S20480 32) : IVec S20480 32 :=
  select (andi (cmpi .ne (signi x) (broadcastInDim S20480 ![] bcast_S_S20480 (signi (constantI S_ 32 2#32)))) (cmpi .ne (Host.remsi x (splat 2#32)) (splat 0#32)))
    (subi (Host.divsi x (splat 2#32)) (splat 1#32)) (Host.divsi x (splat 2#32))

/-- The divisor as the host's remainder has it: one in place of a zero. -/
abbrev two' : IVec S_ 32 := select (cmpi .eq (constantI S_ 32 2#32) (constantI S_ 32 0#32)) (constantI S_ 32 1#32) (constantI S_ 32 2#32)

/-- The words' remainders by two, as the host takes them. -/
def parities (x : IVec S20480 32) : IVec S20480 32 :=
  select (andi (cmpi .ne (cmpi .slt (Host.remsi x (broadcastInDim S20480 ![] bcast_S_S20480 two')) (splat 0#32))
        (broadcastInDim S20480 ![] bcast_S_S20480 (cmpi .slt two' (constantI S_ 32 0#32))))
      (cmpi .ne (Host.remsi x (broadcastInDim S20480 ![] bcast_S_S20480 two')) (splat 0#32)))
    (addi (Host.remsi x (broadcastInDim S20480 ![] bcast_S_S20480 two')) (broadcastInDim S20480 ![] bcast_S_S20480 two'))
    (Host.remsi x (broadcastInDim S20480 ![] bcast_S_S20480 two'))

variable (V : Valuation τ sig (Elt F))

set_option maxRecDepth 8192
set_option maxHeartbeats 2000000

theorem opsA_arg0 : after opsA V (Proc.devRef .tc main_arg0) = V (Proc.devRef .tc main_arg0) := by
  simp only [opsA, TRef.binary, TRef.nullary, TRef.ternary, TRef.unary, TRef.toBuf, TRef.ofBuf, cast_eq]; after_results_simp <;> rfl
theorem opsA_arg1 : after opsA V (Proc.devRef .tc main_arg1) = V (Proc.devRef .tc main_arg1) := by
  simp only [opsA, TRef.binary, TRef.nullary, TRef.ternary, TRef.unary, TRef.toBuf, TRef.ofBuf, cast_eq]; after_results_simp <;> rfl
theorem opsA_arg2 : after opsA V (Proc.devRef .tc main_arg2) = V (Proc.devRef .tc main_arg2) := by
  simp only [opsA, TRef.binary, TRef.nullary, TRef.ternary, TRef.unary, TRef.toBuf, TRef.ofBuf, cast_eq]; after_results_simp <;> rfl
theorem opsA_arg3 : after opsA V (Proc.devRef .tc main_arg3) = V (Proc.devRef .tc main_arg3) := by
  simp only [opsA, TRef.binary, TRef.nullary, TRef.ternary, TRef.unary, TRef.toBuf, TRef.ofBuf, cast_eq]; after_results_simp <;> rfl
theorem opsA_v0 : after opsA V (Proc.devRef .tc main_v0) = shapeCast S20480 (V (Proc.devRef .tc main_arg0) : IVec S20x1024 32) shapeCasts_S20x1024_S20480 := by
  simp only [opsA, TRef.binary, TRef.nullary, TRef.ternary, TRef.unary, TRef.toBuf, TRef.ofBuf, cast_eq]; after_results_simp <;> rfl
theorem opsA_v1 : after opsA V (Proc.devRef .tc main_v1) = shapeCast S50000x128 (V (Proc.devRef .tc main_arg1) : FVec F S100000x64 .f32) shapeCasts_S100000x64_S50000x128 := by
  simp only [opsA, TRef.binary, TRef.nullary, TRef.ternary, TRef.unary, TRef.toBuf, TRef.ofBuf, cast_eq]; after_results_simp <;> rfl
theorem opsA_v3 : after opsA V (Proc.devRef .tc main_v3) = shapeCast S1x20480 (halves (shapeCast S20480 (V (Proc.devRef .tc main_arg0) : IVec S20x1024 32) shapeCasts_S20x1024_S20480)) shapeCasts_S20480_S1x20480 := by
  simp only [opsA, TRef.binary, TRef.nullary, TRef.ternary, TRef.unary, TRef.toBuf, TRef.ofBuf, cast_eq]; after_results_simp <;> rfl

theorem opsB_arg0 : after opsB V (Proc.devRef .tc main_arg0) = V (Proc.devRef .tc main_arg0) := by
  simp only [opsB, TRef.binary, TRef.nullary, TRef.ternary, TRef.unary, TRef.toBuf, TRef.ofBuf, cast_eq]; after_results_simp <;> rfl
theorem opsB_arg1 : after opsB V (Proc.devRef .tc main_arg1) = V (Proc.devRef .tc main_arg1) := by
  simp only [opsB, TRef.binary, TRef.nullary, TRef.ternary, TRef.unary, TRef.toBuf, TRef.ofBuf, cast_eq]; after_results_simp <;> rfl
theorem opsB_arg2 : after opsB V (Proc.devRef .tc main_arg2) = V (Proc.devRef .tc main_arg2) := by
  simp only [opsB, TRef.binary, TRef.nullary, TRef.ternary, TRef.unary, TRef.toBuf, TRef.ofBuf, cast_eq]; after_results_simp <;> rfl
theorem opsB_arg3 : after opsB V (Proc.devRef .tc main_arg3) = V (Proc.devRef .tc main_arg3) := by
  simp only [opsB, TRef.binary, TRef.nullary, TRef.ternary, TRef.unary, TRef.toBuf, TRef.ofBuf, cast_eq]; after_results_simp <;> rfl
theorem opsB_v4 : after opsB V (Proc.devRef .tc main_v4) = V (Proc.devRef .tc main_v4) := by
  simp only [opsB, TRef.binary, TRef.nullary, TRef.ternary, TRef.unary, TRef.toBuf, TRef.ofBuf, cast_eq]; after_results_simp <;> rfl
theorem opsB_v6 : after opsB V (Proc.devRef .tc main_v6) = shapeCast S20480x1 (parities (V (Proc.devRef .tc main_v0))) shapeCasts_S20480_S20480x1 := by
  simp only [opsB, TRef.binary, TRef.nullary, TRef.ternary, TRef.unary, TRef.toBuf, TRef.ofBuf, cast_eq]; after_results_simp <;> rfl
theorem opsB_v9 : after opsB V (Proc.devRef .tc main_v9) =
    (pad S64x100352 ![0, 0] ![0, 352] ![0, 0] (truncf .bf16 (transpose S64x100000 [1, 0] (V (Proc.devRef .tc main_arg2) : FVec F S100000x64 .f32) transposes_S100000x64_S64x100000_1_0) bitsLt_bf16_f32)
      (sitofp .bf16 (constantI S_ 32 0#32)) pads_S64x100000_S64x100352_000_03520 h_S_ : FVec F S64x100352 .bf16) := by
  simp only [opsB, TRef.binary, TRef.nullary, TRef.ternary, TRef.unary, TRef.toBuf, TRef.ofBuf, cast_eq]; after_results_simp <;> rfl
theorem opsB_v11 : after opsB V (Proc.devRef .tc main_v11) =
    (shapeCast S1x100352 (pad S100352 ![0] ![352] ![0] (V (Proc.devRef .tc main_arg3) : FVec F S100000 .f32) (constant S_ .f32 0xFF800000#32) pads_S100000_S100352_03520 h_S_) shapeCasts_S100352_S1x100352 : FVec F S1x100352 .f32) := by
  simp only [opsB, TRef.binary, TRef.nullary, TRef.ternary, TRef.unary, TRef.toBuf, TRef.ofBuf, cast_eq]; after_results_simp <;> rfl

end Cert.K

end
-- ==== Proof.Words.lean ====
/-
  Words in range: their halves, their remainders by two, and what the preconditions say of them.
-/
module

public import Idealize.ShloMosaic.PureOps
public import Idealize.ShloMosaic.Lib.WordArith

@[expose] public section

namespace Cert.K

open Idealize.ShloMosaic

/-- One word's half, as the host takes it. -/
def halfWord (v : BitVec 32) : BitVec 32 :=
  if IntOp.andi (IntOp.cmpi .ne (if v = 0 then 0 else if v.msb then -1 else 1 : BitVec 32) (if (2#32) = 0 then 0 else if (2#32).msb then -1 else 1 : BitVec 32))
      (IntOp.cmpi .ne (IntOp.remsi .host v 2#32) 0#32) = 1#1
  then IntOp.subi (IntOp.divsi .host v 2#32) 1#32 else IntOp.divsi .host v 2#32

/-- One word's remainder by two, as the host takes it. -/
def parityWord (v : BitVec 32) : BitVec 32 :=
  if IntOp.andi (IntOp.cmpi .ne (IntOp.cmpi .slt (IntOp.remsi .host v 2#32) 0#32) (IntOp.cmpi .slt 2#32 0#32))
      (IntOp.cmpi .ne (IntOp.remsi .host v 2#32) 0#32) = 1#1
  then IntOp.addi (IntOp.remsi .host v 2#32) 2#32 else IntOp.remsi .host v 2#32

theorem divsi_two (v : BitVec 32) (h : v.toNat < 2 ^ 31) : IntOp.divsi .host v 2#32 = BitVec.ofNat 32 (v.toNat / 2) := by
  have hc : ¬ IntOp.SDivCorner v 2#32 := by
    rintro (h0 | ⟨_, h0⟩) <;> exact absurd h0 (by decide)
  unfold IntOp.divsi
  rw [if_neg hc]
  have hm : v.msb = false := by rw [BitVec.msb_eq_decide]; simpa using h
  rw [BitVec.sdiv_eq, hm]
  apply BitVec.eq_of_toNat_eq
  simp [BitVec.msb_eq_decide]
  omega

theorem remsi_two (v : BitVec 32) (h : v.toNat < 2 ^ 31) : IntOp.remsi .host v 2#32 = BitVec.ofNat 32 (v.toNat % 2) := by
  have hc : ¬ IntOp.SDivCorner v 2#32 := by
    rintro (h0 | ⟨_, h0⟩) <;> exact absurd h0 (by decide)
  unfold IntOp.remsi
  rw [if_neg hc]
  have hm : v.msb = false := by rw [BitVec.msb_eq_decide]; simpa using h
  rw [BitVec.srem_eq, hm]
  apply BitVec.eq_of_toNat_eq
  simp [BitVec.msb_eq_decide]
  omega

theorem toNat_halfWord (v : BitVec 32) (h : v.toNat < 2 ^ 31) : (halfWord v).toNat = v.toNat / 2 := by
  have hm : v.msb = false := by rw [BitVec.msb_eq_decide]; simpa using h
  unfold halfWord
  rw [divsi_two v h, remsi_two v h, hm]
  rw [if_neg]
  · simp; omega
  · by_cases hv : v = 0
    · subst hv; decide
    · rw [if_neg hv]
      rcases Nat.mod_two_eq_zero_or_one v.toNat with e | e <;> rw [e] <;> decide

theorem parityWord_eq (v : BitVec 32) (h : v.toNat < 2 ^ 31) : parityWord v = BitVec.ofNat 32 (v.toNat % 2) := by
  unfold parityWord
  rw [remsi_two v h]
  rcases Nat.mod_two_eq_zero_or_one v.toNat with e | e <;> rw [e] <;> decide

/-- A word that is not below zero and below 100000, signed, is below 100000. -/
theorem lt_of_cmp (v : BitVec 32) (h0 : IntOp.cmpi .sge v 0#32 = 1#1) (h1 : IntOp.cmpi .slt v 100000#32 = 1#1) : v.toNat < 100000 := by
  simp only [IntOp.cmpi, WordArith.ofBool_eq_one_iff, BitVec.sle_eq_decide, BitVec.slt_eq_decide,
    decide_eq_true_eq, BitVec.toInt_eq_toNat_cond, BitVec.toNat_ofNat, Nat.reducePow, Nat.reduceMod] at h0 h1
  omega

end Cert.K

end
-- ==== Proof.SameText.lean ====
/-
  The two printings of the kernel are one program: their body tables and their threads are equal.
-/
module

public import proofs.«01_k».proof.Defs
public import proofs.«01_k».proof.Proof.Gen.Kernel
public import proofs.«01_k».proof.Proof.Gen.KernelIdeal

@[expose] public section

set_option maxHeartbeats 4000000

namespace Cert.K

open Idealize.ShloMosaic

variable {F : FTy → Type} [FloatOps F]

theorem bodies_eq : Cert.Kernel.defs₀ (F := F) = Cert.KernelIdeal.defs₀ (F := F) := by
  funext p ℓ a
  match p, ℓ, a with
  | .scVector c s, 0, a => rfl
  | .scVector c s, 1, a => rfl
  | .scVector c s, 2, a => rfl
  | .tc, 0, _ => rfl
  | .tc, 1, (t, s) => rfl
  | .tc, 2, (t, s) => rfl
  | .scScalar c, 0, _ => rfl
  | .scScalar c, 1, _ => rfl
  | .scScalar c, 2, _ => rfl

theorem defs_eq : Cert.Kernel.defs (F := F) = Cert.KernelIdeal.defs (F := F) :=
  congrArg (fun D => (Cert.KernelIdeal.sc (F := F)).defs (Pipeline.defs (Cert.KernelIdeal.pcfgs (F := F)) D)) bodies_eq

theorem threads_eq : Cert.Kernel.threads (F := F) = Cert.KernelIdeal.threads (F := F) := rfl

end Cert.K

end
-- ==== Proof.Frames.lean ====
/-
  The frames: every run ends with the argument arrays as they were and every counter at zero.
-/
module

public import proofs.«01_k».proof.Defs
public import proofs.«01_k».proof.Proof.Launch
public import proofs.«01_k».proof.Proof.HostVals
public import proofs.«01_k».proof.Proof.Words
public import proofs.«01_k».proof.Proof.SameText
public import proofs.«01_k».proof.Proof.Gen.Kernel
public import proofs.«01_k».proof.Proof.Gen.ReferenceIdeal
public import proofs.«01_k».proof.Proof.Gen.ReferenceIdeal.Run
public import proofs.«01_k».proof.Proof.Gen.Pre_in_range
public import Idealize.ShloMosaic.Lib.ReduceAll

@[expose] public section

set_option maxHeartbeats 4000000

noncomputable section

namespace Cert.K

open Cert.KernelIdeal Cert.KernelIdeal.Gen

open Idealize.ShloMosaic
open Idealize.ShloMosaic.TcCoe Idealize.ShloMosaic.Tactic
open Idealize.SL.Sem
open Idealize.ShloMosaic.Pipeline (afterRegion afterRegion_keeps)
open Idealize.ShloMosaic.StableHlo (after launchContents)

variable {F : FTy → Type} [FloatOps F]

/-! ## What the preconditions say of the words -/

instance : Subsingleton (Cert.Pre_in_range.S_ : Shape).Idx := inferInstanceAs (Subsingleton (∀ a : Fin 0, _))

theorem words_of_in_range (a0 : IVec Cert.Pre_in_range.S20x1024 32) (a1 a2 : FVec F Cert.Pre_in_range.S100000x64 .f32) (a3 : FVec F Cert.Pre_in_range.S100000 .f32)
    (h : Cert.Pre_in_range.fn (F := F) a0 a1 a2 a3 = fun _ => 1#1) (i : Cert.Pre_in_range.S20x1024.Idx) : (a0 i).toNat < 100000 := by
  have e := congrFun h (fun a => a.elim0)
  dsimp only [Cert.Pre_in_range.fn] at e
  obtain ⟨e1, e2⟩ := IntOp.andi_eq_one.mp e
  exact lt_of_cmp _ (Host.reduce_andi_all _ _ _ _ _ e1 i) (Host.reduce_andi_all _ _ _ _ _ e2 i)

theorem halves_apply (x : IVec S20480 32) (i : S20480.Idx) : halves x i = halfWord (x i) := rfl
theorem parities_apply (x : IVec S20480 32) (i : S20480.Idx) : parities x i = parityWord (x i) := rfl

/-- The word list names rows of the table. -/
theorem idx_lt (V : Valuation τ sig (Elt F)) (h : ∀ i, ((V (Proc.devRef .tc main_arg0) : IVec S20x1024 32) i).toNat < 100000) (j : S1x20480.Idx) : (idxOf (Va V) j).toNat < 50000 := by
  show ((after opsA V (Proc.devRef .tc main_v3) : IVec S1x20480 32) j).toNat < 50000
  rw [opsA_v3]
  unfold shapeCast
  rw [halves_apply]
  have := h (Shape.reshapeEquiv shapeCasts_S20x1024_S20480 (Shape.reshapeEquiv shapeCasts_S20480_S1x20480 j))
  rw [toNat_halfWord _ (by omega)]
  omega

/-! ## The arguments are as they were -/

theorem Vd_keep (d : Dev nD) (V : Valuation τ sig (Elt F)) (r : Ref sig .tc)
    (h1 : ∀ w, Pipeline.arrRef spec1 w = r → (cfg1.win w).isOut = false) (h2 : ∀ w, Pipeline.arrRef spec2 w = r → (cfg2.win w).isOut = false)
    (hb : Vb V (Proc.devRef .tc r) = V (Proc.devRef .tc r)) : Vd d V (Proc.devRef .tc r) = V (Proc.devRef .tc r) :=
  (afterRegion_keeps (dat2 (Vc d V) (Bd (F := F) d) d) (Vc d V) winFacts2.arr_inj (fun _ => rfl) r h2).trans
    ((afterRegion_keeps (dat1 (Vb V) (Bd (F := F) d) d) (Vb V) winFacts1.arr_inj (fun _ => rfl) r h1).trans hb)

theorem Vd_arg0 (d : Dev nD) (V : Valuation τ sig (Elt F)) : Vd d V (Proc.devRef .tc main_arg0) = V (Proc.devRef .tc main_arg0) :=
  Vd_keep d V _ (by decide) (by decide) ((opsB_arg0 _).trans ((Function.update_of_ne (by decide) _ _).trans (opsA_arg0 V)))
theorem Vd_arg1 (d : Dev nD) (V : Valuation τ sig (Elt F)) : Vd d V (Proc.devRef .tc main_arg1) = V (Proc.devRef .tc main_arg1) :=
  Vd_keep d V _ (by decide) (by decide) ((opsB_arg1 _).trans ((Function.update_of_ne (by decide) _ _).trans (opsA_arg1 V)))
theorem Vd_arg2 (d : Dev nD) (V : Valuation τ sig (Elt F)) : Vd d V (Proc.devRef .tc main_arg2) = V (Proc.devRef .tc main_arg2) :=
  Vd_keep d V _ (by decide) (by decide) ((opsB_arg2 _).trans ((Function.update_of_ne (by decide) _ _).trans (opsA_arg2 V)))
theorem Vd_arg3 (d : Dev nD) (V : Valuation τ sig (Elt F)) : Vd d V (Proc.devRef .tc main_arg3) = V (Proc.devRef .tc main_arg3) :=
  Vd_keep d V _ (by decide) (by decide) ((opsB_arg3 _).trans ((Function.update_of_ne (by decide) _ _).trans (opsA_arg3 V)))

variable (m : (ℓ : Loc nD τ sig) → Buf (Elt F) ℓ) (ρ : Dev nD → PrngReg)

/-- A run's end: the result at its value, the arguments as they were, the counters at zero. -/
def Ends (r : PUnit × MemSt nD τ sig (Elt F)) : Prop :=
  (∀ c : Dev nD, r.2.mem ((c.tc : Thread nD τ).loc main_v13) = Vd c (launchContents m c) (Proc.devRef .tc main_v13)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0

theorem run_ends [∀ e, Nonempty (Elt F e)] (h : ∀ (d : Dev nD) i, ((m ((d.tc : Thread nD τ).loc main_arg0) : IVec S20x1024 32) i).toNat < 100000) :
    θ_run (Cert.KernelIdeal.defs (F := F)) (Cert.KernelIdeal.threads (F := F)) ⟨m, fun _ => 0, ρ⟩ (Ends m) :=
  (θ_run Cert.KernelIdeal.defs _ _).mono (fun r hr => ⟨fun c =>
      ⟨hr.1 c (Proc.devRef .tc main_v13) (by decide), (hr.1 c (Proc.devRef .tc main_arg0) (by decide)).trans (Vd_arg0 c _),
        (hr.1 c (Proc.devRef .tc main_arg1) (by decide)).trans (Vd_arg1 c _), (hr.1 c (Proc.devRef .tc main_arg2) (by decide)).trans (Vd_arg2 c _),
        (hr.1 c (Proc.devRef .tc main_arg3) (by decide)).trans (Vd_arg3 c _)⟩, hr.2⟩)
    (run_main m ρ fun d j => idx_lt (launchContents m d) (h d) j)

theorem run_frame [∀ e, Nonempty (Elt F e)] (h : ∀ (d : Dev nD) i, ((m ((d.tc : Thread nD τ).loc main_arg0) : IVec S20x1024 32) i).toNat < 100000) :
    θ_run (Cert.KernelIdeal.defs (F := F)) (Cert.KernelIdeal.threads (F := F)) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) ∧ r.2.sem = fun _ => 0 :=
  (θ_run Cert.KernelIdeal.defs _ _).mono (fun _ hr => ⟨fun c => (hr.1 c).2, hr.2⟩) (run_ends m ρ h)

end Cert.K

namespace Cert.K

open Idealize.ShloMosaic
open Idealize.SL.Sem

theorem frame_kernel : Cert.quiescent_Kernel := fun m ρ hpre =>
  (congrArg (fun D => θ_run D (Cert.KernelIdeal.threads (F := Bits)) ⟨m, fun _ => 0, ρ⟩ _) (defs_eq (F := Bits))).mpr
    (run_frame (F := Bits) m ρ fun d i => words_of_in_range _ _ _ _ (hpre d) i)

theorem frame_ideal : Cert.quiescent_KernelIdeal := fun m ρ hpre =>
  run_frame (F := Ideal) m ρ fun d i => words_of_in_range _ _ _ _ (hpre d) i

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

end Cert.K

end
-- ==== Proof.Pay.lean ====
/-
  The two kernels' payloads at an index, on the extended reals.
-/
module

public import proofs.«01_k».proof.Proof.Gen.KernelIdeal.Skeleton
public import Idealize.ShloMosaic.Lib.Pointwise

@[expose] public section

noncomputable section

namespace Cert.K

open Cert.KernelIdeal Cert.KernelIdeal.Gen
open Idealize.ShloMosaic

set_option maxRecDepth 16384
set_option maxHeartbeats 4000000

theorem ofBits_negInf : Ideal.ofBits .f32 0xFF800000#32 = ⊥ := by simp [Ideal.ofBits, Ideal.ieee]
theorem ofBits_posInf : Ideal.ofBits .f32 0x7F800000#32 = ⊤ := by simp [Ideal.ofBits, Ideal.ieee]

/-- A tile's logits. -/
def tileLogit (x : FVec Ideal S1024x64 .f32) (w : FVec Ideal S64x1024 .bf16) (b : FVec Ideal S1x1024 .f32) (r : Fin 1024) (j : Fin 1024) : EReal :=
  (∑ k : Fin 64, x (ix2 r k) * w (ix2 k j)) + b (ix2 0 j)

theorem pay17_apply (x : FVec Ideal S1024x64 .f32) (w : FVec Ideal S64x1024 .bf16) (b : FVec Ideal S1x1024 .f32) (r j : Fin 1024) :
    k1_pay17 (F := Ideal) x w b (ix2 r j) = tileLogit x w b r j := by
  pointwise [k1_pay17, tileLogit]

theorem pay18_apply (x : FVec Ideal S1024x64 .f32) (w : FVec Ideal S64x1024 .bf16) (b : FVec Ideal S1x1024 .f32) (m : FVec Ideal S1024x1 .f32) (r : Fin 1024) :
    k1_pay18 (F := Ideal) x w b m (ix2 r 0) = max (m (ix2 r 0)) (Finset.univ.fold max ⊥ (tileLogit x w b r)) := by
  pointwise [k1_pay18]
  rw [ofBits_negInf, show tileLogit x w b r = fun j => k1_pay17 (F := Ideal) x w b (ix2 r j) from funext fun j => (pay17_apply x w b r j).symm]

theorem pay19_apply (x : FVec Ideal S1024x64 .f32) (w : FVec Ideal S64x1024 .bf16) (b : FVec Ideal S1x1024 .f32) (m s : FVec Ideal S1024x1 .f32) (r : Fin 1024) :
    k1_pay19 (F := Ideal) x w b m s (ix2 r 0) = s (ix2 r 0) * Ideal.exp (m (ix2 r 0) - k1_pay18 (F := Ideal) x w b m (ix2 r 0))
      + ∑ j, Ideal.exp (tileLogit x w b r j - k1_pay18 (F := Ideal) x w b m (ix2 r 0)) := by
  pointwise [k1_pay19]
  congr 1
  exact Finset.sum_congr rfl fun j _ => by rw [pay17_apply]

theorem pay20_apply (x : FVec Ideal S1024x64 .f32) (w : FVec Ideal S64x1024 .bf16) (b : FVec Ideal S1x1024 .f32) (m : FVec Ideal S1024x1 .f32) (r : Fin 1024) :
    k1_pay20 (F := Ideal) x w b m (ix2 r 0) = k1_pay18 (F := Ideal) x w b m (ix2 r 0) := by
  pointwise [k1_pay20]

theorem pay1_apply (m s : FVec Ideal S1024x1 .f32) (r : Fin 1024) :
    k1_pay1 (F := Ideal) m s (ix2 r 0) = m (ix2 r 0) + Ideal.log (s (ix2 r 0)) := by
  pointwise [k1_pay1]

theorem pay14_apply (r : Fin 1024) : k1_pay14 (F := Ideal) (ix2 r 0) = ⊥ := by
  pointwise [k1_pay14, ofBits_negInf]

theorem pay16_apply (r : Fin 1024) : k1_pay16 (F := Ideal) k1_pay15 (ix2 r 0) = 0 := by
  pointwise [k1_pay16, k1_pay15]

theorem pay2_apply (x : FVec Ideal S1024x64 .f32) (w : FVec Ideal S64x1024 .bf16) (b : FVec Ideal S1x1024 .f32) (l : FVec Ideal S1024x1 .f32) (r j : Fin 1024) :
    k2_pay1 (F := Ideal) x w b l (ix2 r j) = tileLogit x w b r j - l (ix2 r 0) := by
  pointwise [k2_pay1, tileLogit]

end Cert.K

end
-- ==== Proof.Pick.lean ====
/-
  The sum of the twenty gathered rows of an example, at an index.
-/
module

public import proofs.«01_k».proof.Proof.LseRun
public import proofs.«01_k».proof.Proof.Pay

@[expose] public section

noncomputable section

namespace Cert.K

open Cert.KernelIdeal Cert.KernelIdeal.Gen
open Idealize.ShloMosaic

set_option maxRecDepth 16384
set_option maxHeartbeats 4000000

/-- The half of a row that its parity names. -/
def pick (g : FVec Ideal S1024x128 .f32) (p : IVec S1024x1 32) (r : Fin 1024) (c : Fin 64) : EReal :=
  Scalar.select (IntOp.cmpi .ne (p (ix2 r 0)) 0#32) (g (ix2 r (⟨64 + c.val, by omega⟩ : Fin 128))) (g (ix2 r (⟨c.val, by omega⟩ : Fin 128)))

theorem pay2_pick (g₀ g₁ g₂ : FVec Ideal S1024x128 .f32) (p₀ p₁ p₂ : IVec S1024x1 32) (r : Fin 1024) (c : Fin 64) :
    k1_pay2 (F := Ideal) g₀ p₀ g₁ p₁ g₂ p₂ (ix2 r c) = pick g₀ p₀ r c + pick g₁ p₁ r c + pick g₂ p₂ r c := by
  pointwise [k1_pay2, pick]

theorem pay4_pick (x : FVec Ideal S1024x64 .f32) (g₀ g₁ g₂ : FVec Ideal S1024x128 .f32) (p₀ p₁ p₂ : IVec S1024x1 32) (r : Fin 1024) (c : Fin 64) :
    k1_pay4 (F := Ideal) x (k1_pay3 (F := Ideal) g₀) p₀ g₁ p₁ g₂ p₂ (ix2 r c) = x (ix2 r c) + pick g₀ p₀ r c + pick g₁ p₁ r c + pick g₂ p₂ r c := by
  pointwise [k1_pay4, k1_pay3, pick]

theorem pay6_pick (x : FVec Ideal S1024x64 .f32) (g₀ g₁ g₂ g₃ : FVec Ideal S1024x128 .f32) (p₀ p₁ p₂ p₃ : IVec S1024x1 32) (r : Fin 1024) (c : Fin 64) :
    k1_pay6 (F := Ideal) x (k1_pay5 (F := Ideal) g₀ p₀) g₁ p₁ g₂ p₂ g₃ p₃ (ix2 r c) = x (ix2 r c) + pick g₀ p₀ r c + pick g₁ p₁ r c + pick g₂ p₂ r c + pick g₃ p₃ r c := by
  pointwise [k1_pay6, k1_pay5, pick]

theorem pay9_pick (x : FVec Ideal S1024x64 .f32) (g₀ g₁ g₂ g₃ : FVec Ideal S1024x128 .f32) (p₀ p₁ p₂ p₃ : IVec S1024x1 32) (r : Fin 1024) (c : Fin 64) :
    k1_pay9 (F := Ideal) x (k1_pay7 (F := Ideal) g₀) (k1_pay8 (F := Ideal) p₀) g₁ p₁ g₂ p₂ g₃ p₃ (ix2 r c) = x (ix2 r c) + pick g₀ p₀ r c + pick g₁ p₁ r c + pick g₂ p₂ r c + pick g₃ p₃ r c := by
  pointwise [k1_pay9, k1_pay7, k1_pay8, pick]

theorem pay10_pick (x : FVec Ideal S1024x64 .f32) (g₀ g₁ g₂ : FVec Ideal S1024x128 .f32) (p₀ p₁ p₂ : IVec S1024x1 32) (r : Fin 1024) (c : Fin 64) :
    k1_pay10 (F := Ideal) x g₀ p₀ g₁ p₁ g₂ p₂ (ix2 r c) = x (ix2 r c) + pick g₀ p₀ r c + pick g₁ p₁ r c + pick g₂ p₂ r c := by
  pointwise [k1_pay10, pick]

theorem pay13_pick (x : FVec Ideal S1024x64 .f32) (g₀ g₁ g₂ : FVec Ideal S1024x128 .f32) (p₀ p₁ p₂ : IVec S1024x1 32) (r : Fin 1024) (c : Fin 64) :
    k1_pay13 (F := Ideal) x (k1_pay11 (F := Ideal) g₀) (k1_pay12 (F := Ideal) p₀) 0#32 g₁ p₁ g₂ p₂ (ix2 r c) = x (ix2 r c) + pick g₀ p₀ r c + pick g₁ p₁ r c + pick g₂ p₂ r c := by
  pointwise [k1_pay13, k1_pay11, k1_pay12, pick]

theorem xsum_pick (g : FVec Ideal S20480x128 .f32) (p : IVec S20480x1 32) (r : Fin 1024) (c : Fin 64) :
    xsum (F := Ideal) g p (ix2 r c) = ∑ k : Fin 20, pick (gk (F := Ideal) g k) (pk (F := Ideal) p k) r c := by
  unfold xsum
  rw [pay13_pick, pay10_pick, pay9_pick, pay6_pick, pay4_pick, pay2_pick]
  simp only [Fin.sum_univ_castSucc, Fin.sum_univ_zero, zero_add]
  rfl

/-- The row and half of the gathered rows that example `r`'s entry `c` takes at step `k`. -/
theorem pick_apply (g : FVec Ideal S20480x128 .f32) (p : IVec S20480x1 32) (k : Fin 20) (r : Fin 1024) (c : Fin 64) :
    pick (gk (F := Ideal) g k) (pk (F := Ideal) p k) r c
      = Scalar.select (IntOp.cmpi .ne (p (ix2 (⟨1024 * k.val + r.val, by omega⟩ : Fin 20480) 0)) 0#32)
          (g (ix2 (⟨1024 * k.val + r.val, by omega⟩ : Fin 20480) (⟨64 + c.val, by omega⟩ : Fin 128)))
          (g (ix2 (⟨1024 * k.val + r.val, by omega⟩ : Fin 20480) (⟨c.val, by omega⟩ : Fin 128))) := by
  have hg : ∀ e : Fin 128, gk (F := Ideal) g k (ix2 r e) = g (ix2 (⟨1024 * k.val + r.val, by omega⟩ : Fin 20480) e) := fun e => by
    refine congrArg g (funext fun a => Fin.ext ?_)
    match a with
    | ⟨0, _⟩ => show 1024 * k.val + 1 * r.val = 1024 * k.val + r.val; omega
    | ⟨1, _⟩ => show 0 + 1 * e.val = e.val; omega
  have hp : pk (F := Ideal) p k (ix2 r 0) = p (ix2 (⟨1024 * k.val + r.val, by omega⟩ : Fin 20480) 0) := by
    refine congrArg p (funext fun a => Fin.ext ?_)
    match a with
    | ⟨0, _⟩ => show 1024 * k.val + 1 * r.val = 1024 * k.val + r.val; omega
    | ⟨1, _⟩ => rfl
  unfold pick
  rw [hp, hg, hg]

end Cert.K

end
-- ==== Proof.Online.lean ====
/-
  A row's running maximum and scaled sum of exponentials over tiles, on the extended reals: whatever the maxima are, the maximum
  plus the logarithm of the sum is the logarithm of the row's sum of exponentials.
-/
module

public import Idealize.ShloMosaic.PureOps.Ideal
public import Idealize.ShloMosaic.PureOps.Ideal.Laws

@[expose] public section

noncomputable section

namespace Cert.K

open Idealize.ShloMosaic

/-- A real or minus infinity. -/
def RealOrBot (x : EReal) : Prop := x = ⊥ ∨ ∃ r : ℝ, x = (r : EReal)

/-- The exponential of a real, zero at minus infinity, as a real. -/
def expR (x : EReal) : ℝ := (Ideal.exp x).toReal

theorem expR_bot : expR ⊥ = 0 := by simp [expR]
theorem expR_coe (r : ℝ) : expR (r : EReal) = Real.exp r := by simp [expR]

theorem exp_sub_real (x : EReal) (hx : RealOrBot x) (m : ℝ) : Ideal.exp (x - (m : EReal)) = ((Real.exp (-m) * expR x : ℝ) : EReal) := by
  rcases hx with rfl | ⟨r, rfl⟩
  · rw [expR_bot, mul_zero, EReal.bot_sub]; rfl
  · rw [expR_coe, ← EReal.coe_sub, Ideal.exp_coe, ← Real.exp_add, sub_eq_add_neg, add_comm]

theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

theorem sum_exp_sub {ι : Type} (s : Finset ι) (L : ι → EReal) (hL : ∀ i, RealOrBot (L i)) (m : ℝ) :
    ∑ i ∈ s, Ideal.exp (L i - (m : EReal)) = ((Real.exp (-m) * ∑ i ∈ s, expR (L i) : ℝ) : EReal) := by
  rw [Finset.mul_sum, coe_sum]
  exact Finset.sum_congr rfl fun i _ => exp_sub_real _ (hL i) m

theorem fold_max_realOrBot {ι : Type} (s : Finset ι) (L : ι → EReal) (hL : ∀ i, RealOrBot (L i)) (b : EReal) (hb : RealOrBot b) : RealOrBot (s.fold max b L) := by
  classical
  induction s using Finset.induction with
  | empty => simpa using hb
  | insert a s ha ih =>
    rw [Finset.fold_insert ha]
    rcases max_choice (L a) (s.fold max b L) with h | h <;> rw [h]
    · exact hL a
    · exact ih

theorem le_fold_max {ι : Type} (s : Finset ι) (L : ι → EReal) (b : EReal) (i : ι) (hi : i ∈ s) : L i ≤ s.fold max b L :=
  (Finset.le_fold_max _).mpr (Or.inr ⟨i, hi, le_refl _⟩)

/-- A maximum with a real among its entries, none plus infinity, is a real. -/
theorem fold_max_real {ι : Type} (s : Finset ι) (L : ι → EReal) (hL : ∀ i, RealOrBot (L i)) (i : ι) (hi : i ∈ s) (r : ℝ) (hr : L i = (r : EReal)) :
    ∃ m : ℝ, s.fold max ⊥ L = (m : EReal) := by
  rcases fold_max_realOrBot s L hL ⊥ (Or.inl rfl) with h | h
  · have := le_fold_max s L ⊥ i hi
    rw [h, hr] at this
    exact absurd (le_bot_iff.mp this) (EReal.coe_ne_bot r)
  · exact h

/-- What the running pair says: nothing yet, or a real maximum and the sum `T` scaled by it. -/
def Running (M S : EReal) (T : ℝ) : Prop := (M = ⊥ ∧ S = 0 ∧ T = 0) ∨ ∃ m : ℝ, M = (m : EReal) ∧ S = ((Real.exp (-m) * T : ℝ) : EReal)

theorem running_step {ι : Type} [Fintype ι] (M S : EReal) (T : ℝ) (h : Running M S T) (L : ι → EReal) (hL : ∀ i, RealOrBot (L i)) (i : ι) (r : ℝ) (hr : L i = (r : EReal)) :
    ∃ m : ℝ, max M (Finset.univ.fold max ⊥ L) = (m : EReal)
      ∧ S * Ideal.exp (M - (m : EReal)) + ∑ i, Ideal.exp (L i - (m : EReal)) = ((Real.exp (-m) * (T + ∑ i, expR (L i)) : ℝ) : EReal) := by
  obtain ⟨a, ha⟩ := fold_max_real Finset.univ L hL i (Finset.mem_univ _) r hr
  rw [ha]
  rcases h with ⟨rfl, rfl, rfl⟩ | ⟨m₀, rfl, rfl⟩
  · refine ⟨a, max_eq_right bot_le, ?_⟩
    rw [zero_mul, zero_add, zero_add, sum_exp_sub _ L hL]
  · refine ⟨max m₀ a, (Monotone.map_max (f := ((↑) : ℝ → EReal)) EReal.coe_strictMono.monotone).symm, ?_⟩
    rw [sum_exp_sub _ L hL, ← EReal.coe_sub, Ideal.exp_coe, ← EReal.coe_mul, ← EReal.coe_add, mul_add]
    congr 2
    rw [mul_comm (Real.exp (-m₀)) T, mul_assoc, ← Real.exp_add, mul_comm T]
    congr 2
    rw [sub_eq_add_neg, ← add_assoc, neg_add_cancel, zero_add]

/-- The maximum and the logarithm of the scaled sum add up to the logarithm of the sum. -/
theorem add_log (m T : ℝ) (hT : 0 < T) : (m : EReal) + Ideal.log ((Real.exp (-m) * T : ℝ) : EReal) = (Real.log T : EReal) := by
  have hp : 0 < Real.exp (-m) * T := mul_pos (Real.exp_pos _) hT
  rw [Ideal.log_coe, if_neg (not_le.mpr hp), Real.log_mul (Real.exp_pos _).ne' hT.ne', Real.log_exp, ← EReal.coe_add, ← add_assoc, add_neg_cancel, zero_add]

theorem sub_log (x m T : ℝ) (hT : 0 < T) : ((x : EReal) - (m : EReal)) - Ideal.log ((Real.exp (-m) * T : ℝ) : EReal) = ((x - Real.log T : ℝ) : EReal) := by
  have hp : 0 < Real.exp (-m) * T := mul_pos (Real.exp_pos _) hT
  rw [Ideal.log_coe, if_neg (not_le.mpr hp), Real.log_mul (Real.exp_pos _).ne' hT.ne', Real.log_exp, ← EReal.coe_sub, ← EReal.coe_sub, sub_sub, ← add_assoc, add_neg_cancel, zero_add]

end Cert.K

end
-- ==== Proof.Spec.lean ====
/-
  The result in plain mathematics: the logits of each example, the sum of their exponentials, and the logits less the
  logarithm of that sum; and the facts of the real numbers that the two programs' values need.
-/
module

public import proofs.«01_k».proof.Proof.Online
public import proofs.«01_k».proof.Proof.Gen.KernelIdeal
public import Idealize.ShloMosaic.Lib.Pointwise

@[expose] public section

noncomputable section

namespace Cert.K

open Cert.KernelIdeal
open Idealize.ShloMosaic

variable (a : IVec S20x1024 32) (E W : FVec Ideal S100000x64 .f32) (b : FVec Ideal S100000 .f32)

/-- The table's row that word `k` of example `r` names. -/
def rowOf (k : Fin 20) (r : Fin 1024) : Fin 100000 := ⟨(a (ix2 k r)).toNat % 100000, Nat.mod_lt _ (by decide)⟩

/-- The sum of the rows that an example's words name. -/
def rowsSum (r : Fin 1024) (c : Fin 64) : EReal := ∑ k : Fin 20, E (ix2 (rowOf a k r) c)

/-- An example's logit at a column. -/
def logit (r : Fin 1024) (n : Fin 100000) : EReal := (∑ k : Fin 64, rowsSum a E r k * W (ix2 n k)) + b (ix1 n)

/-- The logits on the padded columns: minus infinity past the last. -/
def padLogit (r : Fin 1024) (n : ℕ) : EReal := if h : n < 100000 then logit a E W b r ⟨n, h⟩ else ⊥

/-- The sum of the exponentials of an example's logits. -/
def total (r : Fin 1024) : ℝ := ∑ n : Fin 100000, expR (logit a E W b r n)

/-- The sum over the first `N` padded columns. -/
def partSum (r : Fin 1024) (N : ℕ) : ℝ := ∑ n ∈ Finset.range N, expR (padLogit a E W b r n)

/-- The result: the logit less the logarithm of the sum of the exponentials. -/
def result (r : Fin 1024) (n : Fin 100000) : EReal := (((logit a E W b r n).toReal - Real.log (total a E W b r) : ℝ) : EReal)

/-- Every entry of the table, of the weights and of the bias is a real number. -/
structure Reals : Prop where
  table : ∀ i, ∃ x : ℝ, E i = (x : EReal)
  weights : ∀ i, ∃ x : ℝ, W i = (x : EReal)
  bias : ∀ i, ∃ x : ℝ, b i = (x : EReal)

variable {a E W b}

theorem real_sum {ι : Type} [Fintype ι] (f : ι → EReal) (h : ∀ i, ∃ x : ℝ, f i = (x : EReal)) : ∃ x : ℝ, ∑ i, f i = (x : EReal) := by
  choose g hg using h
  exact ⟨∑ i, g i, (Finset.sum_congr rfl fun i _ => hg i).trans (coe_sum _ _).symm⟩

variable (h : Reals E W b)
include h

theorem logit_real (r : Fin 1024) (n : Fin 100000) : ∃ x : ℝ, logit a E W b r n = (x : EReal) := by
  obtain ⟨y, hy⟩ := real_sum (fun k : Fin 64 => rowsSum a E r k * W (ix2 n k)) fun k => by
    obtain ⟨p, hp⟩ := real_sum (fun q : Fin 20 => E (ix2 (rowOf a q r) k)) fun q => h.table _
    obtain ⟨w, hw⟩ := h.weights (ix2 n k)
    exact ⟨p * w, by rw [hw, show rowsSum a E r k = (p : EReal) from hp, EReal.coe_mul]⟩
  obtain ⟨z, hz⟩ := h.bias (ix1 n)
  exact ⟨y + z, by unfold logit; rw [hy, hz, EReal.coe_add]⟩

theorem logit_toReal (r : Fin 1024) (n : Fin 100000) : logit a E W b r n = ((logit a E W b r n).toReal : EReal) := by
  obtain ⟨x, hx⟩ := logit_real (a := a) h r n
  rw [hx, EReal.toReal_coe]

theorem padLogit_realOrBot (r : Fin 1024) (n : ℕ) : RealOrBot (padLogit a E W b r n) := by
  unfold padLogit
  split
  · exact Or.inr (logit_real h r _)
  · exact Or.inl rfl

theorem expR_logit_pos (r : Fin 1024) (n : Fin 100000) : 0 < expR (logit a E W b r n) := by
  rw [logit_toReal h, expR_coe]; exact Real.exp_pos _

theorem total_pos (r : Fin 1024) : 0 < total a E W b r :=
  Finset.sum_pos (fun n _ => expR_logit_pos h r n) ⟨⟨0, by decide⟩, Finset.mem_univ _⟩

omit h in
theorem partSum_zero (r : Fin 1024) : partSum a E W b r 0 = 0 := Finset.sum_range_zero _

omit h in
theorem partSum_tile (r : Fin 1024) (t : ℕ) :
    partSum a E W b r (1024 * (t + 1)) = partSum a E W b r (1024 * t) + ∑ j : Fin 1024, expR (padLogit a E W b r (1024 * t + j.val)) := by
  unfold partSum
  rw [Nat.mul_succ, Finset.sum_range_add, Finset.sum_range (n := 1024) (fun i => expR (padLogit a E W b r (1024 * t + i)))]

omit h in
theorem partSum_all (r : Fin 1024) : partSum a E W b r (1024 * 98) = total a E W b r := by
  unfold partSum total
  rw [← Finset.sum_subset (Finset.range_subset_range.mpr (show 100000 ≤ 1024 * 98 by decide))
    (fun n _ hn => by
      have hn' : ¬ n < 100000 := fun hh => hn (Finset.mem_range.mpr hh)
      unfold padLogit
      rw [dif_neg hn', expR_bot]), Finset.sum_range]
  refine Finset.sum_congr rfl fun n _ => ?_
  unfold padLogit
  rw [dif_pos n.isLt]

end Cert.K

end
-- ==== Proof.Rows.lean ====
/-
  The summed rows of the first kernel, in terms of the arguments: example `r`'s entry `c` is the sum over the twenty
  words of the example of the table's entry `c` in the row the word names.
-/
module

public import proofs.«01_k».proof.Proof.Launch
public import proofs.«01_k».proof.Proof.HostVals
public import proofs.«01_k».proof.Proof.Words
public import proofs.«01_k».proof.Proof.Pick
public import proofs.«01_k».proof.Proof.Spec

@[expose] public section

noncomputable section

namespace Cert.K

open Cert.KernelIdeal Cert.KernelIdeal.Gen

open Idealize.ShloMosaic
open Idealize.ShloMosaic.TcCoe
open Idealize.ShloMosaic.StableHlo (after)

set_option maxRecDepth 16384
set_option maxHeartbeats 4000000

/-! ## The host's reshapes at an index -/

theorem halves_at (x : IVec S20480 32) (i : S20480.Idx) : halves x i = halfWord (x i) := rfl
theorem parities_at (x : IVec S20480 32) (i : S20480.Idx) : parities x i = parityWord (x i) := rfl

theorem flat_at (a : IVec S20x1024 32) (k : Fin 20) (r : Fin 1024) :
    shapeCast S20480 a shapeCasts_S20x1024_S20480 (ix1 (⟨1024 * k.val + r.val, by omega⟩ : Fin 20480)) = a (ix2 k r) := by
  pointwise

theorem list_at (x : IVec S20480 32) (n : Fin 20480) : shapeCast S1x20480 x shapeCasts_S20480_S1x20480 (ix2 0 n) = x (ix1 n) := by
  pointwise

theorem column_at (x : IVec S20480 32) (n : Fin 20480) : shapeCast S20480x1 x shapeCasts_S20480_S20480x1 (ix2 n 0) = x (ix1 n) := by
  pointwise

theorem table_at (E : FVec Ideal S100000x64 .f32) (n : Fin 50000) (e : Fin 128) :
    shapeCast S50000x128 E shapeCasts_S100000x64_S50000x128 (ix2 n e)
      = E (ix2 (⟨2 * n.val + e.val / 64, by omega⟩ : Fin 100000) (⟨e.val % 64, by omega⟩ : Fin 64)) := by
  pointwise
  refine congrArg E (funext fun d => Fin.ext ?_)
  match d with
  | ⟨0, _⟩ => show n.val * 2 + e.val / 64 = 2 * n.val + e.val / 64; omega
  | ⟨1, _⟩ => rfl

/-! ## The gathered rows -/

variable (V : Valuation τ sig (Elt Ideal))

/-- The arguments, as the launch has them. -/
abbrev A0 : IVec S20x1024 32 := V (Proc.devRef .tc main_arg0)
abbrev A1 : FVec Ideal S100000x64 .f32 := V (Proc.devRef .tc main_arg1)
abbrev A2 : FVec Ideal S100000x64 .f32 := V (Proc.devRef .tc main_arg2)
abbrev A3 : FVec Ideal S100000 .f32 := V (Proc.devRef .tc main_arg3)

theorem gV_eq : gV (Vb V) = gatherRows (tabOf (Va V)) (idxOf (Va V)) :=
  (opsB_v4 (Vg V)).trans (Function.update_self _ _ _)

theorem pV_at (k : Fin 20) (r : Fin 1024) : pV (Vb V) (ix2 (⟨1024 * k.val + r.val, by omega⟩ : Fin 20480) 0) = parityWord (A0 V (ix2 k r)) := by
  have e : pV (Vb V) = shapeCast S20480x1 (parities (shapeCast S20480 (A0 V) shapeCasts_S20x1024_S20480)) shapeCasts_S20480_S20480x1 :=
    (opsB_v6 (Vg V)).trans (congrArg (fun x => shapeCast S20480x1 (parities x) shapeCasts_S20480_S20480x1)
      ((Function.update_of_ne (by decide) _ _).trans (opsA_v0 V)))
  rw [e, column_at, parities_at, flat_at]

theorem word_at (k : Fin 20) (r : Fin 1024) (h : (A0 V (ix2 k r)).toNat < 100000) :
    (wordAt (F := Ideal) (idxOf (Va V)) (1024 * k.val + r.val)).toNat = (A0 V (ix2 k r)).toNat / 2 := by
  have e : idxOf (Va V) = shapeCast S1x20480 (halves (shapeCast S20480 (A0 V) shapeCasts_S20x1024_S20480)) shapeCasts_S20480_S1x20480 := opsA_v3 V
  unfold wordAt
  rw [e]
  have hn : (⟨(1024 * k.val + r.val) % 20480, Nat.mod_lt _ (by decide)⟩ : Fin 20480) = (⟨1024 * k.val + r.val, by omega⟩ : Fin 20480) :=
    Fin.ext (Nat.mod_eq_of_lt (by omega))
  rw [hn]
  refine (congrArg BitVec.toNat (list_at _ _)).trans ?_
  rw [halves_at, flat_at, toNat_halfWord _ (by omega)]

theorem gV_at (k : Fin 20) (r : Fin 1024) (e : Fin 128) (h : (A0 V (ix2 k r)).toNat < 100000) :
    gV (Vb V) (ix2 (⟨1024 * k.val + r.val, by omega⟩ : Fin 20480) e)
      = A1 V (ix2 (⟨2 * ((A0 V (ix2 k r)).toNat / 2) + e.val / 64, by omega⟩ : Fin 100000) (⟨e.val % 64, by omega⟩ : Fin 64)) := by
  have et : tabOf (Va V) = shapeCast S50000x128 (A1 V) shapeCasts_S100000x64_S50000x128 := opsA_v1 V
  rw [gV_eq]
  show rowAt (tabOf (Va V)) (idxOf (Va V)) (1024 * k.val + r.val) e = _
  unfold rowAt
  rw [et]
  refine (table_at (A1 V) _ _).trans ?_
  refine congrArg (A1 V) (funext fun d => Fin.ext ?_)
  match d with
  | ⟨0, _⟩ =>
    show 2 * ((wordAt (F := Ideal) (idxOf (Va V)) (1024 * k.val + r.val)).toNat % 50000) + e.val / 64 = 2 * ((A0 V (ix2 k r)).toNat / 2) + e.val / 64
    rw [word_at V k r h]; omega
  | ⟨1, _⟩ => rfl

theorem pick_at (k : Fin 20) (r : Fin 1024) (c : Fin 64) (h : (A0 V (ix2 k r)).toNat < 100000) :
    pick (gk (F := Ideal) (gV (Vb V)) k) (pk (F := Ideal) (pV (Vb V)) k) r c = A1 V (ix2 (rowOf (A0 V) k r) c) := by
  rw [pick_apply, pV_at, gV_at V k r _ h, gV_at V k r _ h, parityWord_eq _ (by omega)]
  rcases Nat.mod_two_eq_zero_or_one (A0 V (ix2 k r)).toNat with e | e
  · rw [e]
    show A1 V _ = A1 V _
    refine congrArg (A1 V) (funext fun d => Fin.ext ?_)
    match d with
    | ⟨0, _⟩ => show 2 * ((A0 V (ix2 k r)).toNat / 2) + c.val / 64 = (A0 V (ix2 k r)).toNat % 100000; omega
    | ⟨1, _⟩ => show c.val % 64 = c.val; omega
  · rw [e]
    show A1 V _ = A1 V _
    refine congrArg (A1 V) (funext fun d => Fin.ext ?_)
    match d with
    | ⟨0, _⟩ => show 2 * ((A0 V (ix2 k r)).toNat / 2) + (64 + c.val) / 64 = (A0 V (ix2 k r)).toNat % 100000; omega
    | ⟨1, _⟩ => show (64 + c.val) % 64 = c.val; omega

theorem xV_at (h : ∀ i, (A0 V i).toNat < 100000) (r : Fin 1024) (c : Fin 64) :
    xV (Vb V) (ix2 r c) = rowsSum (A0 V) (A1 V) r c := by
  unfold xV
  rw [xsum_pick]
  exact Finset.sum_congr rfl fun k _ => pick_at V k r c (h _)

end Cert.K

end
-- ==== Proof.Tiles.lean ====
/-
  The tiles of the weights and of the bias that the two TensorCore kernels read, in terms of the arguments: the padded
  columns hold zero weights and a bias of minus infinity.
-/
module

public import proofs.«01_k».proof.Proof.Rows
public import proofs.«01_k».proof.Proof.Pay

@[expose] public section

noncomputable section

namespace Cert.K

open Cert.KernelIdeal Cert.KernelIdeal.Gen

open Idealize.ShloMosaic
open Idealize.ShloMosaic.TcCoe
open Idealize.ShloMosaic.StableHlo (after)

set_option maxRecDepth 16384
set_option maxHeartbeats 4000000

/-! ## Where a tile lies -/

theorem tr1_2 : ∀ t : Fin cfg1.N, cc1_transform_2 (cfg1.grid.coords t) 0 = 0 ∧ cc1_transform_2 (cfg1.grid.coords t) 1 = t.val := by decide +kernel
theorem tr1_3 : ∀ t : Fin cfg1.N, cc1_transform_3 (cfg1.grid.coords t) 0 = 0 ∧ cc1_transform_3 (cfg1.grid.coords t) 1 = t.val := by decide +kernel
theorem tr2_1 : ∀ t : Fin cfg2.N, cc2_transform_1 (cfg2.grid.coords t) 0 = 0 ∧ cc2_transform_1 (cfg2.grid.coords t) 1 = t.val := by decide +kernel
theorem tr2_2 : ∀ t : Fin cfg2.N, cc2_transform_2 (cfg2.grid.coords t) 0 = 0 ∧ cc2_transform_2 (cfg2.grid.coords t) 1 = t.val := by decide +kernel

theorem lane_lt (n : ℕ) (hn : n < 98) (j : Fin 1024) : 1024 * n + j.val < 100352 := by omega
theorem lt98_1 (t : Fin cfg1.N) : t.val < 98 := cfg1_N ▸ t.isLt
theorem lt98_2 (t : Fin cfg2.N) : t.val < 98 := cfg2_N ▸ t.isLt

section
variable (W : Valuation τ sig (Elt Ideal))

theorem wV_at (t : Fin cfg1.N) (k : Fin 64) (j : Fin 1024) :
    wV W t (ix2 k j) = (W (Proc.devRef .tc main_v9) : FVec Ideal S64x100352 .bf16) (ix2 k ⟨1024 * t.val + j.val, lane_lt _ (lt98_1 t) j⟩) := by
  show (W (Proc.devRef .tc main_v9)) (((cfg1.win 2).blk t).view.emb (ix2 k j)) = _
  refine congrArg (W (Proc.devRef .tc main_v9)) (funext fun a => Fin.ext ?_)
  obtain ⟨h0, h1⟩ := tr1_2 t
  match a with
  | ⟨0, _⟩ => show cc1_transform_2 (cfg1.grid.coords t) 0 * 64 + 1 * k.val = k.val; rw [h0]; omega
  | ⟨1, _⟩ => show cc1_transform_2 (cfg1.grid.coords t) 1 * 1024 + 1 * j.val = 1024 * t.val + j.val; rw [h1]; omega

theorem bV_at (t : Fin cfg1.N) (j : Fin 1024) :
    bV W t (ix2 0 j) = (W (Proc.devRef .tc main_v11) : FVec Ideal S1x100352 .f32) (ix2 0 ⟨1024 * t.val + j.val, lane_lt _ (lt98_1 t) j⟩) := by
  show (W (Proc.devRef .tc main_v11)) (((cfg1.win 3).blk t).view.emb (ix2 0 j)) = _
  refine congrArg (W (Proc.devRef .tc main_v11)) (funext fun a => Fin.ext ?_)
  obtain ⟨h0, h1⟩ := tr1_3 t
  match a with
  | ⟨0, _⟩ => show cc1_transform_3 (cfg1.grid.coords t) 0 * 1 + 1 * 0 = 0; rw [h0]
  | ⟨1, _⟩ => show cc1_transform_3 (cfg1.grid.coords t) 1 * 1024 + 1 * j.val = 1024 * t.val + j.val; rw [h1]; omega

theorem w2V_at (t : Fin cfg2.N) (k : Fin 64) (j : Fin 1024) :
    w2V W t (ix2 k j) = (W (Proc.devRef .tc main_v9) : FVec Ideal S64x100352 .bf16) (ix2 k ⟨1024 * t.val + j.val, lane_lt _ (lt98_2 t) j⟩) := by
  show (W (Proc.devRef .tc main_v9)) (((cfg2.win 1).blk t).view.emb (ix2 k j)) = _
  refine congrArg (W (Proc.devRef .tc main_v9)) (funext fun a => Fin.ext ?_)
  obtain ⟨h0, h1⟩ := tr2_1 t
  match a with
  | ⟨0, _⟩ => show cc2_transform_1 (cfg2.grid.coords t) 0 * 64 + 1 * k.val = k.val; rw [h0]; omega
  | ⟨1, _⟩ => show cc2_transform_1 (cfg2.grid.coords t) 1 * 1024 + 1 * j.val = 1024 * t.val + j.val; rw [h1]; omega

theorem b2V_at (t : Fin cfg2.N) (j : Fin 1024) :
    b2V W t (ix2 0 j) = (W (Proc.devRef .tc main_v11) : FVec Ideal S1x100352 .f32) (ix2 0 ⟨1024 * t.val + j.val, lane_lt _ (lt98_2 t) j⟩) := by
  show (W (Proc.devRef .tc main_v11)) (((cfg2.win 2).blk t).view.emb (ix2 0 j)) = _
  refine congrArg (W (Proc.devRef .tc main_v11)) (funext fun a => Fin.ext ?_)
  obtain ⟨h0, h1⟩ := tr2_2 t
  match a with
  | ⟨0, _⟩ => show cc2_transform_2 (cfg2.grid.coords t) 0 * 1 + 1 * 0 = 0; rw [h0]
  | ⟨1, _⟩ => show cc2_transform_2 (cfg2.grid.coords t) 1 * 1024 + 1 * j.val = 1024 * t.val + j.val; rw [h1]; omega

end

/-! ## The padded arrays -/

theorem sitofp_zero : (FloatOps.sitofp .bf16 0#32 : Ideal .bf16) = 0 := by
  show (((0#32 : BitVec 32).toInt : ℝ) : EReal) = 0
  norm_num

theorem padW_at (A : FVec Ideal S100000x64 .f32) (k : Fin 64) (n : Fin 100352) :
    (pad S64x100352 ![0, 0] ![0, 352] ![0, 0] (truncf .bf16 (transpose S64x100000 [1, 0] A transposes_S100000x64_S64x100000_1_0) bitsLt_bf16_f32)
      (sitofp .bf16 (constantI S_ 32 0#32)) pads_S64x100000_S64x100352_000_03520 h_S_ : FVec Ideal S64x100352 .bf16) (ix2 k n)
      = if h : n.val < 100000 then A (ix2 (⟨n.val, h⟩ : Fin 100000) k) else 0 := by
  pointwise
  rw [show (FloatOps.sitofp .bf16 0#32 : Ideal .bf16) = 0 from sitofp_zero]

theorem padB_at (A : FVec Ideal S100000 .f32) (n : Fin 100352) :
    (shapeCast S1x100352 (pad S100352 ![0] ![352] ![0] A (constant S_ .f32 0xFF800000#32) pads_S100000_S100352_03520 h_S_) shapeCasts_S100352_S1x100352 : FVec Ideal S1x100352 .f32) (ix2 0 n)
      = if h : n.val < 100000 then A (ix1 (⟨n.val, h⟩ : Fin 100000)) else ⊥ := by
  pointwise
  rw [ofBits_negInf]

end Cert.K

end
-- ==== Proof.Lse.lean ====
/-
  The first TensorCore kernel's running maximum and running sum, and the logarithm it ends with.
-/
module

public import proofs.«01_k».proof.Proof.Tiles
public import proofs.«01_k».proof.Proof.Pay

@[expose] public section

noncomputable section

namespace Cert.K

open Cert.KernelIdeal Cert.KernelIdeal.Gen

open Idealize.ShloMosaic
open Idealize.ShloMosaic.TcCoe
open Idealize.ShloMosaic.StableHlo (after)

set_option maxRecDepth 16384
set_option maxHeartbeats 4000000

variable (V : Valuation τ sig (Elt Ideal))

theorem v9_eq : (Vb V (Proc.devRef .tc main_v9) : FVec Ideal S64x100352 .bf16)
    = pad S64x100352 ![0, 0] ![0, 352] ![0, 0] (truncf .bf16 (transpose S64x100000 [1, 0] (A2 V) transposes_S100000x64_S64x100000_1_0) bitsLt_bf16_f32)
      (sitofp .bf16 (constantI S_ 32 0#32)) pads_S64x100000_S64x100352_000_03520 h_S_ := by
  have e : Vg V (Proc.devRef .tc main_arg2) = A2 V := (Function.update_of_ne (by decide) _ _).trans (opsA_arg2 V)
  refine (opsB_v9 (Vg V)).trans ?_
  rw [e]

theorem v11_eq : (Vb V (Proc.devRef .tc main_v11) : FVec Ideal S1x100352 .f32)
    = shapeCast S1x100352 (pad S100352 ![0] ![352] ![0] (A3 V) (constant S_ .f32 0xFF800000#32) pads_S100000_S100352_03520 h_S_) shapeCasts_S100352_S1x100352 := by
  have e : Vg V (Proc.devRef .tc main_arg3) = A3 V := (Function.update_of_ne (by decide) _ _).trans (opsA_arg3 V)
  refine (opsB_v11 (Vg V)).trans ?_
  rw [e]

variable (hi : ∀ i, (A0 V i).toNat < 100000)

/-- A tile's logits are the padded logits from its first column on. -/
theorem tile_at (x : FVec Ideal S1024x64 .f32) (w : FVec Ideal S64x1024 .bf16) (bb : FVec Ideal S1x1024 .f32) (r j : Fin 1024) (n : ℕ) (hn : n < 100352)
    (hx : ∀ c, x (ix2 r c) = rowsSum (A0 V) (A1 V) r c)
    (hw : ∀ k, w (ix2 k j) = (Vb V (Proc.devRef .tc main_v9) : FVec Ideal S64x100352 .bf16) (ix2 k ⟨n, hn⟩))
    (hb : bb (ix2 0 j) = (Vb V (Proc.devRef .tc main_v11) : FVec Ideal S1x100352 .f32) (ix2 0 ⟨n, hn⟩)) :
    tileLogit x w bb r j = padLogit (A0 V) (A1 V) (A2 V) (A3 V) r n := by
  unfold tileLogit padLogit
  rw [hb, v11_eq, padB_at]
  by_cases h : n < 100000
  · rw [dif_pos h, dif_pos h]
    unfold logit
    congr 1
    refine Finset.sum_congr rfl fun k _ => ?_
    rw [hx, hw, v9_eq, padW_at, dif_pos h]
  · rw [dif_neg h, dif_neg h, EReal.add_bot]

include hi

theorem tile1_at (t : Fin cfg1.N) (r j : Fin 1024) :
    tileLogit (xV (Vb V)) (wV (Vb V) t) (bV (Vb V) t) r j = padLogit (A0 V) (A1 V) (A2 V) (A3 V) r (1024 * t.val + j.val) :=
  tile_at V _ _ _ r j _ (lane_lt _ (lt98_1 t) j) (fun c => xV_at V hi r c) (fun k => wV_at _ t k j) (bV_at _ t j)

variable (hr : Reals (A1 V) (A2 V) (A3 V))
include hr

/-- After `n` tiles the two accumulators hold the maximum and the scaled sum of the exponentials so far. -/
theorem msV_running (r : Fin 1024) : ∀ n, n ≤ 98 →
    Running ((msV (Vb V) n).1 (ix2 r 0)) ((msV (Vb V) n).2 (ix2 r 0)) (partSum (A0 V) (A1 V) (A2 V) (A3 V) r (1024 * n))
  | 0, _ => Or.inl ⟨pay14_apply r, pay16_apply r, partSum_zero r⟩
  | n + 1, hn => by
    have hN : n < cfg1.N := by rw [cfg1_N]; omega
    have ih := msV_running r n (by omega)
    have hL : ∀ j, tileLogit (xV (Vb V)) (wV (Vb V) ⟨n, hN⟩) (bV (Vb V) ⟨n, hN⟩) r j = padLogit (A0 V) (A1 V) (A2 V) (A3 V) r (1024 * n + j.val) :=
      fun j => tile1_at V hi ⟨n, hN⟩ r j
    have h0 : padLogit (A0 V) (A1 V) (A2 V) (A3 V) r (1024 * n + (0 : Fin 1024).val) = ((logit (A0 V) (A1 V) (A2 V) (A3 V) r ⟨1024 * n, by omega⟩).toReal : EReal) := by
      unfold padLogit
      rw [dif_pos (show 1024 * n + (0 : Fin 1024).val < 100000 by show 1024 * n + 0 < 100000; omega)]
      exact logit_toReal hr r _
    obtain ⟨m, hm, hs⟩ := running_step _ _ _ ih (fun j : Fin 1024 => padLogit (A0 V) (A1 V) (A2 V) (A3 V) r (1024 * n + j.val))
      (fun j => padLogit_realOrBot hr r _) 0 _ h0
    have e18 : k1_pay18 (F := Ideal) (xV (Vb V)) (wV (Vb V) ⟨n, hN⟩) (bV (Vb V) ⟨n, hN⟩) (msV (Vb V) n).1 (ix2 r 0) = (m : EReal) := by
      rw [pay18_apply, funext hL]; exact hm
    refine Or.inr ⟨m, ?_, ?_⟩
    · rw [show msV (Vb V) (n + 1) = _ from msV_succ (Vb V) ⟨n, hN⟩]
      exact (pay20_apply _ _ _ _ r).trans e18
    · rw [show msV (Vb V) (n + 1) = _ from msV_succ (Vb V) ⟨n, hN⟩, partSum_tile]
      refine (pay19_apply _ _ _ _ _ r).trans ?_
      rw [e18, ← hs]
      congr 1
      exact Finset.sum_congr rfl fun j _ => by rw [hL]

theorem lseV_at (r : Fin 1024) : lseV (Vb V) (ix2 r 0) = (Real.log (total (A0 V) (A1 V) (A2 V) (A3 V) r) : EReal) := by
  have hT := total_pos (a := A0 V) hr r
  have h := msV_running V hi hr r 98 le_rfl
  rw [partSum_all] at h
  unfold lseV
  rw [pay1_apply]
  rcases h with ⟨_, _, h0⟩ | ⟨m, hm, hs⟩
  · exact absurd h0 hT.ne'
  · rw [hm, hs]; exact add_log m _ hT

end Cert.K

end
-- ==== Proof.Result.lean ====
/-
  What the kernel leaves in the result.
-/
module

public import proofs.«01_k».proof.Proof.Lse

@[expose] public section

noncomputable section

namespace Cert.K

open Cert.KernelIdeal Cert.KernelIdeal.Gen

open Idealize.ShloMosaic
open Idealize.ShloMosaic.TcCoe
open Idealize.ShloMosaic.Pipeline (afterRegion afterRegion_keeps afterRegion_arr Dat)

set_option maxRecDepth 16384
set_option maxHeartbeats 4000000

theorem tr1_4 : ∀ t : Fin cfg1.N, cc1_transform_4 (cfg1.grid.coords t) 0 = 0 ∧ cc1_transform_4 (cfg1.grid.coords t) 1 = 0 := by decide +kernel
theorem tr1_5 : ∀ t : Fin cfg1.N, cc1_transform_5 (cfg1.grid.coords t) 0 = 0 ∧ cc1_transform_5 (cfg1.grid.coords t) 1 = 0 := by decide +kernel
theorem tr2_4 : ∀ t : Fin cfg2.N, cc2_transform_4 (cfg2.grid.coords t) 0 = 0 ∧ cc2_transform_4 (cfg2.grid.coords t) 1 = t.val := by decide +kernel

variable (d : Dev nD) (V : Valuation τ sig (Elt Ideal))

/-! ## What the first kernel hands the second -/

theorem lse_left : Vc d V (Proc.devRef .tc main_v12_0) = lseV (Vb V) := by
  refine (afterRegion_arr (dat1 (Vb V) (Bd (F := Ideal) d) d) (Vb V) winFacts1.arr_inj 4).trans ?_
  refine Dat.arrAt_eq_of_covers _ 4 _ (by decide +kernel) fun t _ y => ?_
  show lseV (Vb V) ((cfg1.win 4).xinj (cfg1.grid.coords t) y) = lseV (Vb V) (((cfg1.win 4).blk t).view.emb y)
  refine congrArg (lseV (Vb V)) (funext fun a => Fin.ext ?_)
  obtain ⟨h0, h1⟩ := tr1_4 t
  match a with
  | ⟨0, _⟩ => show (y 0).val = cc1_transform_4 (cfg1.grid.coords t) 0 * 1024 + 1 * (y 0).val; rw [h0]; omega
  | ⟨1, _⟩ => show (y 1).val = cc1_transform_4 (cfg1.grid.coords t) 1 * 1 + 1 * (y 1).val; rw [h1]; omega

theorem x_left : Vc d V (Proc.devRef .tc main_v12_1) = xV (Vb V) := by
  refine (afterRegion_arr (dat1 (Vb V) (Bd (F := Ideal) d) d) (Vb V) winFacts1.arr_inj 5).trans ?_
  refine Dat.arrAt_eq_of_covers _ 5 _ (by decide +kernel) fun t _ y => ?_
  show xV (Vb V) ((cfg1.win 5).xinj (cfg1.grid.coords t) y) = xV (Vb V) (((cfg1.win 5).blk t).view.emb y)
  refine congrArg (xV (Vb V)) (funext fun a => Fin.ext ?_)
  obtain ⟨h0, h1⟩ := tr1_5 t
  match a with
  | ⟨0, _⟩ => show (y 0).val = cc1_transform_5 (cfg1.grid.coords t) 0 * 1024 + 1 * (y 0).val; rw [h0]; omega
  | ⟨1, _⟩ => show (y 1).val = cc1_transform_5 (cfg1.grid.coords t) 1 * 64 + 1 * (y 1).val; rw [h1]; omega

theorem w_left : Vc d V (Proc.devRef .tc main_v9) = Vb V (Proc.devRef .tc main_v9) :=
  afterRegion_keeps (dat1 (Vb V) (Bd (F := Ideal) d) d) (Vb V) winFacts1.arr_inj (fun _ => rfl) main_v9 (by decide)

theorem b_left : Vc d V (Proc.devRef .tc main_v11) = Vb V (Proc.devRef .tc main_v11) :=
  afterRegion_keeps (dat1 (Vb V) (Bd (F := Ideal) d) d) (Vb V) winFacts1.arr_inj (fun _ => rfl) main_v11 (by decide)

/-! ## The result -/

variable (hi : ∀ i, (A0 V i).toNat < 100000)
include hi

theorem tile2_at (t : Fin cfg2.N) (r j : Fin 1024) :
    tileLogit (x2V (Vc d V)) (w2V (Vc d V) t) (b2V (Vc d V) t) r j = padLogit (A0 V) (A1 V) (A2 V) (A3 V) r (1024 * t.val + j.val) :=
  tile_at V _ _ _ r j _ (lane_lt _ (lt98_2 t) j)
    (fun c => (congrFun (x_left d V) _).trans (xV_at V hi r c))
    (fun k => (w2V_at _ t k j).trans (congrFun (w_left d V) _))
    ((b2V_at _ t j).trans (congrFun (b_left d V) _))

variable (hr : Reals (A1 V) (A2 V) (A3 V))
include hr

theorem out_at (t : Fin cfg2.N) (r j : Fin 1024) (n : Fin 100000) (hn : n.val = 1024 * t.val + j.val) :
    k2_pay1 (F := Ideal) (x2V (Vc d V)) (w2V (Vc d V) t) (b2V (Vc d V) t) (l2V (Vc d V)) (ix2 r j) = result (A0 V) (A1 V) (A2 V) (A3 V) r n := by
  rw [pay2_apply, tile2_at d V hi t r j, ← hn]
  unfold padLogit result
  rw [dif_pos n.isLt, show l2V (Vc d V) (ix2 r 0) = _ from (congrFun (lse_left d V) _).trans (lseV_at V hi hr r), EReal.coe_sub,
    ← logit_toReal hr]

theorem result_left : Vd d V (Proc.devRef .tc main_v13) = fun i : S1024x100000.Idx => result (A0 V) (A1 V) (A2 V) (A3 V) (i 0) (i 1) := by
  refine (afterRegion_arr (dat2 (Vc d V) (Bd (F := Ideal) d) d) (Vc d V) winFacts2.arr_inj 4).trans ?_
  refine Dat.arrAt_eq_of_covers _ 4 _ (by decide +kernel) fun t _ y => ?_
  obtain ⟨h0, h1⟩ := tr2_4 t
  have e0 : ((((cfg2.win 4).blk t).view.emb y) 0).val = (((cfg2.win 4).xinj (cfg2.grid.coords t) y) 0).val := by
    show cc2_transform_4 (cfg2.grid.coords t) 0 * 1024 + 1 * (y 0).val = (y 0).val; rw [h0]; omega
  have e1 : ((((cfg2.win 4).blk t).view.emb y) 1).val = 1024 * t.val + (((cfg2.win 4).xinj (cfg2.grid.coords t) y) 1).val := by
    show cc2_transform_4 (cfg2.grid.coords t) 1 * 1024 + 1 * (y 1).val = 1024 * t.val + (y 1).val; rw [h1]; omega
  show k2_pay1 (F := Ideal) (x2V (Vc d V)) (w2V (Vc d V) t) (b2V (Vc d V) t) (l2V (Vc d V)) ((cfg2.win 4).xinj (cfg2.grid.coords t) y)
    = result (A0 V) (A1 V) (A2 V) (A3 V) ((((cfg2.win 4).blk t).view.emb y) 0) ((((cfg2.win 4).blk t).view.emb y) 1)
  have ey : (cfg2.win 4).xinj (cfg2.grid.coords t) y
      = ix2 (((cfg2.win 4).xinj (cfg2.grid.coords t) y) 0 : Fin 1024) (((cfg2.win 4).xinj (cfg2.grid.coords t) y) 1 : Fin 1024) := by
    funext a
    match a with
    | ⟨0, _⟩ => rfl
    | ⟨1, _⟩ => rfl
  rw [ey]
  refine (out_at d V hi hr t _ _ ((((cfg2.win 4).blk t).view.emb y) 1) e1).trans ?_
  exact congrArg (fun q => result (A0 V) (A1 V) (A2 V) (A3 V) q _) (Fin.ext e0.symm)

end Cert.K

end
-- ==== Proof.RefValue.lean ====
/-
  The reference's result, operation by operation: the same logits less the same logarithm.
-/
module

public import proofs.«01_k».proof.Proof.Spec
public import proofs.«01_k».proof.Proof.Pay
public import proofs.«01_k».proof.Proof.Gen.ReferenceIdeal.Run
public import Idealize.ShloMosaic.Lib.ReduceAll

@[expose] public section

noncomputable section

namespace Cert.K

open Cert.ReferenceIdeal Cert.ReferenceIdeal.Gen

open Idealize.ShloMosaic
open Idealize.ShloMosaic.TcCoe

set_option maxRecDepth 16384
set_option maxHeartbeats 4000000

/-! ## The operations in stages -/

/-- The words, a negative one taken from the table's end. -/
def refWords (a : IVec S20x1024 32) : IVec S20x1024x1 32 :=
  broadcastInDim S20x1024x1 ![0, 1] bcast_S20x1024_S20x1024x1_0_1
    (select (cmpi .slt a (broadcastInDim S20x1024 ![] bcast_S_S20x1024 (constantI S_ 32 0#32)))
      (addi a (broadcastInDim S20x1024 ![] bcast_S_S20x1024 (constantI S_ 32 100000#32))) a)

/-- Whether a word names a row of the table. -/
def refMask (I : IVec S20x1024x1 32) : IVec S20x1024 1 :=
  Host.reduce IntOp.andi
    (andi (cmpi .sge I (broadcastInDim S20x1024x1 ![] bcast_S_S20x1024x1 (constantI S_ 32 0#32)))
      (cmpi .sle I (broadcastInDim S20x1024x1 ![0, 1, 2] bcast_S1x1x1_S20x1024x1_0_1_2
        (broadcastInDim S1x1x1 ![2] bcast_S1_S1x1x1_2 (constantI S1 32 99999#32)))))
    (constantI S_ 1 1#1) reducesTo_S20x1024x1_S20x1024_d2 h_S_

/-- The rows read. -/
def refTake (E : FVec Ideal S100000x64 .f32) (I : IVec S20x1024x1 32) : FVec Ideal S20x1024x64 .f32 :=
  select (broadcastInDim S20x1024x64 ![0, 1] bcast_S20x1024_S20x1024x64_0_1 (refMask I))
    (Host.gather gather_S100000x64_S20x1024x1_S20x1024x64_2_0_n_n_0_2_164 E I)
    (broadcastInDim S20x1024x64 ![] bcast_S_S20x1024x64 (constant S_ .f32 0x7FC00000#32))

/-- Their sums. -/
def refSum (T : FVec Ideal S20x1024x64 .f32) : FVec Ideal S1024x64 .f32 :=
  Host.reduceAdd T (constant S_ .f32 0x00000000#32) reducesTo_S20x1024x64_S1024x64_d0 h_S_

/-- The logits. -/
def refLogits (X : FVec Ideal S1024x64 .f32) (W : FVec Ideal S100000x64 .f32) (b : FVec Ideal S100000 .f32) : FVec Ideal S1024x100000 .f32 :=
  addf (Host.dotGeneral dot_S1024x64_S64x100000_S1024x100000_1_0_0_1_n_n none X
      (transpose S64x100000 [1, 0] W transposes_S100000x64_S64x100000_1_0))
    (broadcastInDim S1024x100000 ![0, 1] bcast_S1x100000_S1024x100000_0_1 (broadcastInDim S1x100000 ![1] bcast_S100000_S1x100000_1 b))

/-- The greatest logit of each example. -/
def refMax (L : FVec Ideal S1024x100000 .f32) : FVec Ideal S1024 .f32 :=
  maximumf (broadcastInDim S1024 ![] bcast_S_S1024 (constant S_ .f32 0xFF800000#32))
    (Host.reduce FloatOps.maximumf L (constant S_ .f32 0xFF800000#32) reducesTo_S1024x100000_S1024_d1 h_S_)

/-- The logits less the greatest. -/
def refShift (L : FVec Ideal S1024x100000 .f32) : FVec Ideal S1024x100000 .f32 :=
  subf L (broadcastInDim S1024x100000 ![0, 1] bcast_S1024x1_S1024x100000_0_1 (broadcastInDim S1024x1 ![0] bcast_S1024_S1024x1_0 (refMax L)))

/-- Those less the logarithm of the sum of their exponentials. -/
def refOut (D : FVec Ideal S1024x100000 .f32) : FVec Ideal S1024x100000 .f32 :=
  subf D (broadcastInDim S1024x100000 ![0, 1] bcast_S1024x1_S1024x100000_0_1
    (Host.log (broadcastInDim S1024x1 ![0] bcast_S1024_S1024x1_0
      (Host.reduceAdd (Host.exp D) (constant S_ .f32 0x00000000#32) reducesTo_S1024x100000_S1024_d1 h_S_))))

theorem res_eq (m : (ℓ : Loc nD τ sig) → Buf (Elt Ideal) ℓ) (c : Dev nD) :
    Cert.ReferenceIdeal.Value.res_main_v7 (F := Ideal) m c
      = refOut (refShift (refLogits (refSum (refTake (m ((c.tc : Thread nD τ).loc main_arg1)) (refWords (m ((c.tc : Thread nD τ).loc main_arg0)))))
          (m ((c.tc : Thread nD τ).loc main_arg2)) (m ((c.tc : Thread nD τ).loc main_arg3)))) := rfl

/-! ## The stages at an index -/

variable (a : IVec S20x1024 32) (E W : FVec Ideal S100000x64 .f32) (b : FVec Ideal S100000 .f32)

theorem not_neg (x : BitVec 32) (h : x.toNat < 100000) : IntOp.cmpi .slt x 0#32 = 0#1 := by
  have : ¬ x.slt 0#32 = true := by
    rw [BitVec.slt_iff_toInt_lt, BitVec.toInt_eq_toNat_cond]; simp; omega
  simp [IntOp.cmpi, this]

theorem in_table (x : BitVec 32) (h : x.toNat < 100000) : IntOp.andi (IntOp.cmpi .sge x 0#32) (IntOp.cmpi .sle x 99999#32) = 1#1 := by
  have h1 : (0#32).sle x = true := by
    rw [BitVec.sle_iff_toInt_le, BitVec.toInt_eq_toNat_cond, BitVec.toInt_eq_toNat_cond]; simp; omega
  have h2 : x.sle 99999#32 = true := by
    rw [BitVec.sle_iff_toInt_le, BitVec.toInt_eq_toNat_cond, BitVec.toInt_eq_toNat_cond]; simp; omega
  simp [IntOp.cmpi, IntOp.andi, h1, h2]

theorem refWords_at (k : Fin 20) (r : Fin 1024) (z : Fin 1) (h : (a (ix2 k r)).toNat < 100000) : refWords a (ix3 k r z) = a (ix2 k r) := by
  unfold refWords
  pointwise
  rw [not_neg _ h]
  rfl

theorem refMask_at (I : IVec S20x1024x1 32) (h : ∀ i, (I i).toNat < 100000) (j : S20x1024.Idx) : refMask I j = 1#1 :=
  Host.reduce_andi_one _ _ _ _ _ rfl fun i => in_table _ (h i)

theorem gather_at (I : IVec S20x1024x1 32) (k : Fin 20) (r : Fin 1024) (c : Fin 64) :
    Host.gather gather_S100000x64_S20x1024x1_S20x1024x64_2_0_n_n_0_2_164 E I (ix3 k r c)
      = E (ix2 (⟨min (I (ix3 k r 0)).toInt.toNat 99999, by omega⟩ : Fin 100000) c) := by
  unfold Host.gather
  refine congrArg E (funext fun q => Fin.ext ?_)
  show gather_S100000x64_S20x1024x1_S20x1024x64_2_0_n_n_0_2_164.start (ix3 k r c) I q
    + gather_S100000x64_S20x1024x1_S20x1024x64_2_0_n_n_0_2_164.batchCoord (ix3 k r c) q
    + gather_S100000x64_S20x1024x1_S20x1024x64_2_0_n_n_0_2_164.offCoord (ix3 k r c) q = _
  rw [GatherDims.batchCoord_eq_zero _ _ _ List.not_mem_nil]
  have hq : q = 0 ∨ q = 1 := by
    match q with
    | ⟨0, _⟩ => exact Or.inl rfl
    | ⟨1, _⟩ => exact Or.inr rfl
  rcases hq with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S100000x64_S20x1024x1_S20x1024x64_2_0_n_n_0_2_164.startIndexMap from List.mem_singleton.mpr rfl)]
    have hsi : gather_S100000x64_S20x1024x1_S20x1024x64_2_0_n_n_0_2_164.siIdx (ix3 k r c)
        ⟨List.idxOf (0 : Fin 2) gather_S100000x64_S20x1024x1_S20x1024x64_2_0_n_n_0_2_164.startIndexMap,
          List.idxOf_lt_length_iff.2 (List.mem_singleton.mpr rfl)⟩ = (ix3 k r 0 : S20x1024x1.Idx) := by
      funext b; refine Fin.ext ?_
      match b with
      | ⟨0, _⟩ => rfl
      | ⟨1, _⟩ => rfl
      | ⟨2, _⟩ => rfl
    rw [hsi]
    rfl
  · unfold GatherDims.start
    rw [dif_neg (show ¬ (1 : Fin 2) ∈ gather_S100000x64_S20x1024x1_S20x1024x64_2_0_n_n_0_2_164.startIndexMap by decide)]
    simp only [Nat.zero_add, Nat.add_zero]
    unfold GatherDims.offCoord
    rw [dif_pos (show (1 : Fin 2) ∈ gather_S100000x64_S20x1024x1_S20x1024x64_2_0_n_n_0_2_164.sKept by decide)]
    rfl

section
variable (h : ∀ i, (a i).toNat < 100000)
include h

theorem refWords_lt (i : S20x1024x1.Idx) : (refWords a i).toNat < 100000 := by
  have e : i = (ix3 (i 0 : Fin 20) (i 1 : Fin 1024) (i 2 : Fin 1) : S20x1024x1.Idx) := by
    funext q
    match q with
    | ⟨0, _⟩ => rfl
    | ⟨1, _⟩ => rfl
    | ⟨2, _⟩ => rfl
  exact (congrArg (fun q => (refWords a q).toNat) e).trans_lt
    ((congrArg BitVec.toNat (refWords_at a (i 0) (i 1) (i 2) (h _))).trans_lt (h _))

theorem refTake_at (k : Fin 20) (r : Fin 1024) (c : Fin 64) : refTake E (refWords a) (ix3 k r c) = E (ix2 (rowOf a k r) c) := by
  have e : refTake E (refWords a) (ix3 k r c)
      = Scalar.select (broadcastInDim S20x1024x64 ![0, 1] bcast_S20x1024_S20x1024x64_0_1 (refMask (refWords a)) (ix3 k r c))
          (Host.gather gather_S100000x64_S20x1024x1_S20x1024x64_2_0_n_n_0_2_164 E (refWords a) (ix3 k r c))
          (broadcastInDim S20x1024x64 ![] bcast_S_S20x1024x64 (constant (F := Ideal) S_ .f32 0x7FC00000#32) (ix3 k r c)) := rfl
  have em : broadcastInDim S20x1024x64 ![0, 1] bcast_S20x1024_S20x1024x64_0_1 (refMask (refWords a)) (ix3 k r c) = 1#1 :=
    refMask_at _ (refWords_lt a h) _
  rw [e, em, gather_at]
  show E _ = E _
  refine congrArg E (funext fun q => Fin.ext ?_)
  match q with
  | ⟨0, _⟩ =>
    have := h (ix2 k r)
    show min (refWords a (ix3 k r 0)).toInt.toNat 99999 = (a (ix2 k r)).toNat % 100000
    rw [refWords_at a k r 0 (h _), BitVec.toInt_eq_toNat_cond]
    split <;> omega
  | ⟨1, _⟩ => rfl

theorem refSum_at (r : Fin 1024) (c : Fin 64) : refSum (refTake E (refWords a)) (ix2 r c) = rowsSum a E r c := by
  have e : refSum (refTake E (refWords a)) (ix2 r c) = 0 + ∑ k : Fin 20, refTake E (refWords a) (ix3 k r c) := by
    unfold refSum
    generalize refTake E (refWords a) = T
    pointwise
    done
  rw [e, zero_add]
  exact Finset.sum_congr rfl fun k _ => refTake_at a E h k r c

theorem refLogits_at (r : Fin 1024) (n : Fin 100000) : refLogits (refSum (refTake E (refWords a))) W b (ix2 r n) = logit a E W b r n := by
  have e : ∀ X : FVec Ideal S1024x64 .f32, refLogits X W b (ix2 r n) = (∑ k : Fin 64, X (ix2 r k) * W (ix2 n k)) + b (ix1 n) := by
    intro X
    unfold refLogits
    pointwise
    done
  rw [e]
  unfold logit
  congr 1
  exact Finset.sum_congr rfl fun k _ => by rw [refSum_at a E h]

end

/-- A maximum along an axis is a real number when none of its entries is plus infinity and one is a real number. -/
theorem max_real {s t u : Shape} {axes : List (Fin s.rank)} (L : FVec Ideal s .f32) (init : FVec Ideal u .f32) (hs : s.ReducesTo axes t) (hu : 0 < u.numel)
    (j : t.Idx) (h0 : init (Shape.Idx.first hu) = (⊥ : EReal)) (hL : ∀ i, RealOrBot (L i)) (i : s.Idx) (hi : hs.drop i = j) (x : ℝ) (hx : L i = (x : EReal)) :
    ∃ m : ℝ, Host.reduce FloatOps.maximumf L init hs hu j = (m : EReal) := by
  obtain ⟨m, hm⟩ := fold_max_real (Finset.univ.filter fun i => hs.drop i = j) L hL i (Finset.mem_filter.mpr ⟨Finset.mem_univ _, hi⟩) x hx
  refine ⟨m, ?_⟩
  rw [Host.reduce_eq_fold, h0]
  exact hm

theorem maximumf_bot {s u : Shape} (f : Fin u.rank → Fin s.rank) (hb : u.BroadcastsInDim s f) (c : FVec Ideal u .f32) (y : FVec Ideal s .f32) (i : s.Idx)
    (hc : ∀ j, c j = (⊥ : EReal)) : maximumf (broadcastInDim s f hb c) y i = y i := by
  show max (c _ : EReal) (y i) = y i
  rw [hc]
  exact max_eq_right bot_le

theorem refMax_drop (r : Fin 1024) (n : Fin 100000) : reducesTo_S1024x100000_S1024_d1.drop (ix2 r n) = ix1 r := by
  funext q
  refine Fin.ext ?_
  match q with
  | ⟨0, _⟩ => rfl

theorem refMax_real (L : FVec Ideal S1024x100000 .f32) (hL : ∀ i, RealOrBot (L i)) (r : Fin 1024) (n : Fin 100000) (x : ℝ) (hx : L (ix2 r n) = (x : EReal)) :
    ∃ m : ℝ, refMax L (ix1 r) = (m : EReal) := by
  obtain ⟨m, hm⟩ := max_real L (constant S_ .f32 0xFF800000#32) reducesTo_S1024x100000_S1024_d1 h_S_ (ix1 r) ofBits_negInf hL (ix2 r n)
    (refMax_drop r n) x hx
  refine ⟨m, ?_⟩
  unfold refMax
  rw [maximumf_bot ![] bcast_S_S1024 (constant (F := Ideal) S_ .f32 0xFF800000#32) _ _ fun _ => ofBits_negInf]
  exact hm

theorem refShift_at (L : FVec Ideal S1024x100000 .f32) (r : Fin 1024) (n : Fin 100000) : refShift L (ix2 r n) = L (ix2 r n) - refMax L (ix1 r) := by
  unfold refShift
  generalize refMax L = M
  pointwise
  done

theorem refOut_at (D : FVec Ideal S1024x100000 .f32) (r : Fin 1024) (n : Fin 100000) :
    refOut D (ix2 r n) = D (ix2 r n) - Ideal.log (∑ j : Fin 100000, Ideal.exp (D (ix2 r j))) := by
  unfold refOut
  pointwise
  done

/-- The reference's result. -/
theorem ref_at (h : ∀ i, (a i).toNat < 100000) (hr : Reals E W b) (r : Fin 1024) (n : Fin 100000) :
    refOut (refShift (refLogits (refSum (refTake E (refWords a))) W b)) (ix2 r n) = result a E W b r n := by
  have hL := fun q j => refLogits_at a E W b h q j
  have hR : ∀ L : FVec Ideal S1024x100000 .f32, (∀ q j, L (ix2 q j) = logit a E W b q j) → ∀ i, RealOrBot (L i) := fun L hL i => by
    have e : i = (ix2 (i 0 : Fin 1024) (i 1 : Fin 100000) : S1024x100000.Idx) := by
      funext q
      match q with
      | ⟨0, _⟩ => rfl
      | ⟨1, _⟩ => rfl
    exact Or.inr ((logit_real (a := a) hr (i 0) (i 1)).imp fun x hx => (congrArg L e).trans ((hL _ _).trans hx))
  generalize refLogits (refSum (refTake E (refWords a))) W b = L at hL
  have hb : ∀ i : S1024x100000.Idx, RealOrBot (L i) := hR L hL
  obtain ⟨m, hm⟩ := refMax_real L hb r n _ ((hL r n).trans (logit_toReal hr r n))
  have hD : ∀ j, refShift L (ix2 r j) = L (ix2 r j) - (m : EReal) := fun j => by rw [refShift_at, hm]
  rw [refOut_at, hD]
  simp only [hD]
  rw [sum_exp_sub Finset.univ (fun j : Fin 100000 => L (ix2 r j)) (fun j => hb _) m, hL, logit_toReal hr r n,
    show (∑ j : Fin 100000, expR (L (ix2 r j))) = total a E W b r from Finset.sum_congr rfl fun j _ => by rw [hL]]
  exact sub_log _ m _ (total_pos hr r)

end Cert.K

end
-- ==== Proof.Value.lean ====
/-
  The value claim: on words in range and real tables, weights and biases, the kernel ends with the reference's result.
-/
module

public import proofs.«01_k».proof.Proof.Frames
public import proofs.«01_k».proof.Proof.Result
public import proofs.«01_k».proof.Proof.RefValue
public import proofs.«01_k».proof.Proof.Gen.Pre_in_range_finite

@[expose] public section

set_option maxHeartbeats 4000000

noncomputable section

namespace Cert.K

open Idealize.ShloMosaic
open Idealize.ShloMosaic.TcCoe Idealize.ShloMosaic.Tactic
open Idealize.SL.Sem
open Idealize.ShloMosaic.StableHlo (launchContents)

/-! ## What the precondition says -/

instance : Subsingleton (Cert.Pre_in_range_finite.S_ : Shape).Idx := inferInstanceAs (Subsingleton (∀ a : Fin 0, _))

/-- A number whose absolute value is below plus infinity is real. -/
theorem real_of_abs (x : EReal) (h : (FloatOps.cmpf .olt (max x (-x) : Ideal .f32) (Ideal.ofBits .f32 0x7F800000#32) : BitVec 1) = 1#1) : ∃ y : ℝ, x = (y : EReal) := by
  rw [ofBits_posInf, Ideal.cmpf_def] at h
  have hlt : max x (-x) < ⊤ := by
    by_contra hn
    simp [Ideal.cmp, hn] at h
  induction x with
  | bot => simp at hlt
  | coe y => exact ⟨y, rfl⟩
  | top => simp at hlt

section
variable (a0 : IVec Cert.Pre_in_range_finite.S20x1024 32) (a1 a2 : FVec Ideal Cert.Pre_in_range_finite.S100000x64 .f32) (a3 : FVec Ideal Cert.Pre_in_range_finite.S100000 .f32)
  (h : Cert.Pre_in_range_finite.fn (F := Ideal) a0 a1 a2 a3 = fun _ => 1#1)
include h

theorem words_of_finite (i : Cert.Pre_in_range_finite.S20x1024.Idx) : (a0 i).toNat < 100000 := by
  have e := congrFun h (fun a => a.elim0)
  dsimp only [Cert.Pre_in_range_finite.fn, Cert.Pre_in_range_finite.fn_part1] at e
  obtain ⟨e, -⟩ := IntOp.andi_eq_one.mp e
  obtain ⟨e, -⟩ := IntOp.andi_eq_one.mp e
  obtain ⟨e, -⟩ := IntOp.andi_eq_one.mp e
  obtain ⟨e1, e2⟩ := IntOp.andi_eq_one.mp e
  exact lt_of_cmp _ (Host.reduce_andi_all _ _ _ _ _ e1 i) (Host.reduce_andi_all _ _ _ _ _ e2 i)

theorem reals_of_finite : Reals a1 a2 a3 := by
  have e := congrFun h (fun a => a.elim0)
  dsimp only [Cert.Pre_in_range_finite.fn, Cert.Pre_in_range_finite.fn_part1] at e
  obtain ⟨e, e3⟩ := IntOp.andi_eq_one.mp e
  obtain ⟨e, e2⟩ := IntOp.andi_eq_one.mp e
  obtain ⟨-, e1⟩ := IntOp.andi_eq_one.mp e
  exact ⟨fun i => real_of_abs _ (Host.reduce_andi_all _ _ _ _ _ e1 i), fun i => real_of_abs _ (Host.reduce_andi_all _ _ _ _ _ e2 i),
    fun i => real_of_abs _ (Host.reduce_andi_all _ _ _ _ _ e3 i)⟩

end

/-! ## The claims -/

theorem frame_ideal_finite : Cert.quiescent_KernelIdeal_pre_in_range_finite := fun m ρ hpre =>
  run_frame (F := Ideal) m ρ fun d i => words_of_finite _ _ _ _ (hpre d) i

theorem frame_reference_finite : Cert.quiescent_ReferenceIdeal_pre_in_range_finite := fun m ρ _ =>
  (θ_run Cert.ReferenceIdeal.defs _ _).mono (fun r h => ⟨fun c => (h c).2, sem_eq_zero_of_no_sems (by decide) r.2⟩)
    (Cert.ReferenceIdeal.Value.run m ρ)

/-- The reference's result on the kernel's arguments. -/
theorem ref_result (a : IVec Cert.ReferenceIdeal.S20x1024 32) (E W : FVec Ideal Cert.ReferenceIdeal.S100000x64 .f32) (b : FVec Ideal Cert.ReferenceIdeal.S100000 .f32)
    (h : ∀ i, (a i).toNat < 100000) (hr : Reals E W b) :
    refOut (refShift (refLogits (refSum (refTake E (refWords a))) W b)) = fun i : Cert.ReferenceIdeal.S1024x100000.Idx => result a E W b (i 0) (i 1) := by
  funext i
  have e : i = (ix2 (i 0 : Fin 1024) (i 1 : Fin 100000) : Cert.ReferenceIdeal.S1024x100000.Idx) := by
    funext q
    match q with
    | ⟨0, _⟩ => rfl
    | ⟨1, _⟩ => rfl
  exact (congrArg _ e).trans (ref_at a E W b h hr (i 0) (i 1))

theorem value : Cert.algebraic_KernelIdeal_ReferenceIdeal_pre_in_range_finite := by
  intro m g m' g' hpre hargs
  have hw := fun (c : Dev Cert.KernelIdeal.nD) => words_of_finite _ _ _ _ (hpre c)
  have hr := fun (c : Dev Cert.KernelIdeal.nD) => reals_of_finite _ _ _ _ (hpre c)
  refine ⟨fun c => Vd c (launchContents m c) (Proc.devRef .tc Cert.KernelIdeal.main_v13), ?_, ?_⟩
  · exact (θ_run Cert.KernelIdeal.defs _ _).mono (fun _ h => h.1) (run_ends (F := Ideal) m g hw)
  · refine (θ_run Cert.ReferenceIdeal.defs _ _).mono (fun r h c => ⟨(h c).1.trans ?_, (h c).2⟩) (Cert.ReferenceIdeal.Value.run m' g')
    obtain ⟨h0, h1, h2, h3⟩ := hargs c
    refine (res_eq m' c).trans ?_
    rw [h0, h1, h2, h3]
    exact (ref_result _ _ _ _ (hw c) (hr c)).trans (result_left c (launchContents m c) (hw c) (hr c)).symm

end Cert.K

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_finite
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts, Cert.Pre_in_range_finite.Gen.facts,
  Cert.K.frame_kernel, Cert.K.frame_ideal, Cert.K.frame_ideal_finite, Cert.K.frame_reference, Cert.K.frame_reference_finite, trivial, Cert.K.value⟩

end Cert.Proof

end
